-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S5x128x256 : Shape := ⟨3, ![5, 128, 256]⟩
abbrev S5 : Shape := ⟨1, ![5]⟩
abbrev S_ : Shape := ⟨0, ![]⟩
abbrev S256x64 : Shape := ⟨2, ![256, 64]⟩
abbrev S256 : Shape := ⟨1, ![256]⟩
abbrev S128x128 : Shape := ⟨2, ![128, 128]⟩
abbrev S1x128x256 : Shape := ⟨3, ![1, 128, 256]⟩
abbrev S128x1 : Shape := ⟨2, ![128, 1]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x1, .i32⟩
  | .hbm, ⟨3, _⟩ => ⟨S2x128x256, .f32⟩
  | .hbm, ⟨4, _⟩ => ⟨S128x256, .f32⟩
  | .hbm, ⟨5, _⟩ => ⟨S256x256, .f32⟩
  | .local _ .vmem, ⟨0, _⟩ => ⟨S256x128, .f32⟩
  | .local _ .vmem, ⟨1, _⟩ => ⟨S128x64, .f32⟩
  | .local _ .vmem, ⟨2, _⟩ => ⟨S256x1, .i32⟩
  | .local _ .vmem, ⟨3, _⟩ => ⟨S2x128x256, .f32⟩
  | .local _ .vmem, ⟨4, _⟩ => ⟨S128x256, .f32⟩
  | .local _ .vmem, ⟨5, _⟩ => ⟨S256x256, .f32⟩
  | .local _ .vmem, ⟨6, _⟩ => ⟨S256x256, .bf16⟩
  | .local _ .vmem, ⟨7, _⟩ => ⟨S5x128x256, .bf16⟩
  | .local _ .vmem, ⟨8, _⟩ => ⟨S5x128x256, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v7 : BitVec 32 := Scalar.shrsi v2 c3_i32
  let c3_i32_9 : BitVec 32 := 3#32
  let v18 : BitVec 32 := Scalar.shli v7 c3_i32_9
  let c7_i32 : BitVec 32 := 7#32
  let v8 : BitVec 32 := Scalar.andi v2 c7_i32
  let c1_i32_3 : BitVec 32 := 1#32
  let v9 : BitVec 32 := Scalar.shrsi v8 c1_i32_3
  let c1_i32_6 : BitVec 32 := 1#32
  let v13 : BitVec 32 := Scalar.xori v9 c1_i32_6
  let c1_i32_7 : BitVec 32 := 1#32
  let v14 : BitVec 32 := Scalar.shli v13 c1_i32_7
  let c1_i32_4 : BitVec 32 := 1#32
  let v10 : BitVec 32 := Scalar.andi v8 c1_i32_4
  let c1_i32_5 : BitVec 32 := 1#32
  let v11 : BitVec 32 := Scalar.andi v9 c1_i32_5
  let v12 : BitVec 32 := Scalar.xori v10 v11
  let c1_i32_8 : BitVec 32 := 1#32
  let v15 : BitVec 32 := Scalar.andi v13 c1_i32_8
  let v16 : BitVec 32 := Scalar.xori v12 v15
  let v17 : BitVec 32 := Scalar.ori v14 v16
  let v19 : BitVec 32 := Scalar.ori v18 v17
  let c1_i32_11 : BitVec 32 := 1#32
  let v20 : BitVec 32 := Scalar.muli v19 c1_i32_11
  let v21 : BitVec 32 := Scalar.addi c0_i32_12 v20
  v21.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v22 : BitVec 32 := Scalar.xori v2 c4_i32
  let c1_i32_14 : BitVec 32 := 1#32
  let v23 : BitVec 32 := Scalar.muli v22 c1_i32_14
  let v24 : BitVec 32 := Scalar.addi c0_i32_15 v23
  v24.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v25 : BitVec 32 := Scalar.xori v2 c8_i32
  let c1_i32_17 : BitVec 32 := 1#32
  let v26 : BitVec 32 := Scalar.muli v25 c1_i32_17
  let v27 : BitVec 32 := Scalar.addi c0_i32_18 v26
  v27.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v28 : BitVec 32 := Scalar.xori v2 c16_i32
  let c1_i32_20 : BitVec 32 := 1#32
  let v29 : BitVec 32 := Scalar.muli v28 c1_i32_20
  let v30 : BitVec 32 := Scalar.addi c0_i32_21 v29
  v30.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_35 : BitVec 32 := 4#32
  let v65 : BitVec 32 := Scalar.xori v2 c4_i32_35
  let c1_i32_49 : BitVec 32 := 1#32
  let v85 : BitVec 32 := Scalar.muli v65 c1_i32_49
  let v86 : BitVec 32 := Scalar.addi c0_i32_50 v85
  v86.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_36 : BitVec 32 := 16#32
  let v66 : BitVec 32 := Scalar.xori v2 c16_i32_36
  let c1_i32_67 : BitVec 32 := 1#32
  let v112 : BitVec 32 := Scalar.muli v66 c1_i32_67
  let v113 : BitVec 32 := Scalar.addi c0_i32_68 v112
  v113.toNat
def k0_dev8 (d0 : Dev nD) : Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_125 : BitVec 32 := 3#32
  let v163 : BitVec 32 := Scalar.shrsi v2 c3_i32_125
  let c3_i32_133 : BitVec 32 := 3#32
  let v174 : BitVec 32 := Scalar.shli v163 c3_i32_133
  let c7_i32_126 : BitVec 32 := 7#32
  let v164 : BitVec 32 := Scalar.andi v2 c7_i32_126
  let c1_i32_127 : BitVec 32 := 1#32
  let v165 : BitVec 32 := Scalar.shrsi v164 c1_i32_127
  let c1_i32_130 : BitVec 32 := 1#32
  let v169 : BitVec 32 := Scalar.xori v165 c1_i32_130
  let c1_i32_131 : BitVec 32 := 1#32
  let v170 : BitVec 32 := Scalar.shli v169 c1_i32_131
  let c1_i32_128 : BitVec 32 := 1#32
  let v166 : BitVec 32 := Scalar.andi v164 c1_i32_128
  let c1_i32_129 : BitVec 32 := 1#32
  let v167 : BitVec 32 := Scalar.andi v165 c1_i32_129
  let v168 : BitVec 32 := Scalar.xori v166 v167
  let c1_i32_132 : BitVec 32 := 1#32
  let v171 : BitVec 32 := Scalar.andi v169 c1_i32_132
  let v172 : BitVec 32 := Scalar.xori v168 v171
  let v173 : BitVec 32 := Scalar.ori v170 v172
  let v175 : BitVec 32 := Scalar.ori v174 v173
  let c1_i32_138 : BitVec 32 := 1#32
  let v177 : BitVec 32 := Scalar.muli v175 c1_i32_138
  let v178 : BitVec 32 := Scalar.addi c0_i32_139 v177
  v178.toNat
def k0_dev9 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_134 : BitVec 32 := 8#32
  let v176 : BitVec 32 := Scalar.xori v2 c8_i32_134
  let c1_i32_147 : BitVec 32 := 1#32
  let v186 : BitVec 32 := Scalar.muli v176 c1_i32_147
  let v187 : BitVec 32 := Scalar.addi c0_i32_148 v186
  v187.toNat
def k0_dev10 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_201 : BitVec 32 := 1#32
  let v233 : BitVec 32 := Scalar.xori v2 c1_i32_201
  let c1_i32_214 : BitVec 32 := 1#32
  let v247 : BitVec 32 := Scalar.muli v233 c1_i32_214
  let v248 : BitVec 32 := Scalar.addi c0_i32_215 v247
  v248.toNat
def k0_dev11 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_202 : BitVec 32 := 3#32
  let v234 : BitVec 32 := Scalar.shrsi v2 c3_i32_202
  let c3_i32_210 : BitVec 32 := 3#32
  let v245 : BitVec 32 := Scalar.shli v234 c3_i32_210
  let c7_i32_203 : BitVec 32 := 7#32
  let v235 : BitVec 32 := Scalar.andi v2 c7_i32_203
  let c1_i32_204 : BitVec 32 := 1#32
  let v236 : BitVec 32 := Scalar.shrsi v235 c1_i32_204
  let c1_i32_207 : BitVec 32 := 1#32
  let v240 : BitVec 32 := Scalar.xori v236 c1_i32_207
  let c1_i32_208 : BitVec 32 := 1#32
  let v241 : BitVec 32 := Scalar.shli v240 c1_i32_208
  let c1_i32_205 : BitVec 32 := 1#32
  let v237 : BitVec 32 := Scalar.andi v235 c1_i32_205
  let c1_i32_206 : BitVec 32 := 1#32
  let v238 : BitVec 32 := Scalar.andi v236 c1_i32_206
  let v239 : BitVec 32 := Scalar.xori v237 v238
  let c1_i32_209 : BitVec 32 := 1#32
  let v242 : BitVec 32 := Scalar.andi v240 c1_i32_209
  let v243 : BitVec 32 := Scalar.xori v239 v242
  let v244 : BitVec 32 := Scalar.ori v241 v243
  let v246 : BitVec 32 := Scalar.ori v245 v244
  let c1_i32_223 : BitVec 32 := 1#32
  let v256 : BitVec 32 := Scalar.muli v246 c1_i32_223
  let v257 : BitVec 32 := Scalar.addi c0_i32_224 v256
  v257.toNat
def k0_dev12 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_276 : BitVec 32 := 8#32
  let v303 : BitVec 32 := Scalar.xori v2 c8_i32_276
  let c1_i32_281 : BitVec 32 := 1#32
  let v305 : BitVec 32 := Scalar.muli v303 c1_i32_281
  let v306 : BitVec 32 := Scalar.addi c0_i32_282 v305
  v306.toNat
def k0_dev13 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_277 : BitVec 32 := 1#32
  let v304 : BitVec 32 := Scalar.xori v2 c1_i32_277
  let c1_i32_290 : BitVec 32 := 1#32
  let v314 : BitVec 32 := Scalar.muli v304 c1_i32_290
  let v315 : BitVec 32 := Scalar.addi c0_i32_291 v314
  v315.toNat
def k0_dev14 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_343 : BitVec 32 := 16#32
  let v361 : BitVec 32 := Scalar.xori v2 c16_i32_343
  let c1_i32_348 : BitVec 32 := 1#32
  let v363 : BitVec 32 := Scalar.muli v361 c1_i32_348
  let v364 : BitVec 32 := Scalar.addi c0_i32_349 v363
  v364.toNat
def k0_dev15 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_344 : BitVec 32 := 4#32
  let v362 : BitVec 32 := Scalar.xori v2 c4_i32_344
  let c1_i32_357 : BitVec 32 := 1#32
  let v372 : BitVec 32 := Scalar.muli v362 c1_i32_357
  let v373 : BitVec 32 := Scalar.addi c0_i32_358 v372
  v373.toNat
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x1 : Shape := ⟨2, ![256, 1]⟩
abbrev S64x128x256 : Shape := ⟨3, ![64, 128, 256]⟩
abbrev S128x256 : Shape := ⟨2, ![128, 256]⟩
abbrev S256x64 : Shape := ⟨2, ![256, 64]⟩
abbrev S_ : Shape := ⟨0, ![]⟩
abbrev S256 : Shape := ⟨1, ![256]⟩
abbrev S256x256 : Shape := ⟨2, ![256, 256]⟩
abbrev S256x2 : Shape := ⟨2, ![256, 2]⟩
abbrev S256x128x256 : Shape := ⟨3, ![256, 128, 256]⟩

abbrev nBuf : Space → Nat
  | .hbm => 65
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x64, .f32⟩
  | .hbm, ⟨2, _⟩ => ⟨S256x1, .i32⟩
  | .hbm, ⟨3, _⟩ => ⟨S64x128x256, .f32⟩
  | .hbm, ⟨4, _⟩ => ⟨S128x256, .f32⟩
  | .hbm, ⟨5, _⟩ => ⟨S256x64, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x64, .f32⟩
  | .hbm, ⟨10, _⟩ => ⟨S256x64, .f32⟩
  | .hbm, ⟨11, _⟩ => ⟨S256x64, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x64, .f32⟩
  | .hbm, ⟨16, _⟩ => ⟨S256x64, .f32⟩
  | .hbm, ⟨17, _⟩ => ⟨S256x256, .f32⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S256x1, .i32⟩
  | .hbm, ⟨35, _⟩ => ⟨S256x1, .i32⟩
  | .hbm, ⟨36, _⟩ => ⟨S256x2, .i32⟩
  | .hbm, ⟨37, _⟩ => ⟨S256, .f32⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S_, .i32⟩
  | .hbm, ⟨42, _⟩ => ⟨S256, .i32⟩
  | .hbm, ⟨43, _⟩ => ⟨S256, .i32⟩
  | .hbm, ⟨44, _⟩ => ⟨S256, .i32⟩
  | .hbm, ⟨45, _⟩ => ⟨S256x1, .i32⟩
  | .hbm, ⟨46, _⟩ => ⟨S256x128x256, .f32⟩
  | .hbm, ⟨47, _⟩ => ⟨S256x256, .f32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S_, .i32⟩
  | .hbm, ⟨52, _⟩ => ⟨S256, .i32⟩
  | .hbm, ⟨53, _⟩ => ⟨S256, .i1⟩
  | .hbm, ⟨54, _⟩ => ⟨S256, .i1⟩
  | .hbm, ⟨55, _⟩ => ⟨S256x1, .i1⟩
  | .hbm, ⟨56, _⟩ => ⟨S256x1, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S_, .f32⟩
  | .hbm, ⟨61, _⟩ => ⟨S256x256, .i1⟩
  | .hbm, ⟨62, _⟩ => ⟨S256x256, .f32⟩
  | .hbm, ⟨63, _⟩ => ⟨S256x256, .f32⟩
  | .hbm, ⟨64, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Proof.Mesh.lean ====
/-
# The mesh, the buffers and the semaphores of the all-reduce

The kernel adds the thirty-two devices' partial sums by a butterfly: in five rounds every device
exchanges its running sum with a partner and adds what it receives. The two halves of the rows take
the five partner maps in different orders, so that both directions of every link are busy.

Here are the partner maps, the views the kernel's transfers and waits are on, and its twenty-one
semaphores, all in one form for the two halves (`false` the upper rows, `true` the lower) and the
five rounds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Butterfly

open Cert.KernelIdeal Cert.KernelIdeal.Gen
open Idealize.ShloMosaic Idealize.ShloMosaic.TcCoe

/-! ## Partners -/

set_option backward.proofsInPublic true in
/-- The bits of the device number that partner map `r` flips. -/
def flips : Fin 5 → ℕ := ![1, 3, 4, 8, 16]

set_option backward.proofsInPublic true in
theorem par_lt : ∀ (r : Fin 5) (c : Dev nD), c.val ^^^ flips r < nD := by decide +kernel

set_option backward.proofsInPublic true in
/-- The partner of device `c` under map `r`. -/
def par (r : Fin 5) (c : Dev nD) : Dev nD := ⟨c.val ^^^ flips r, par_lt r c⟩

theorem par_par (r : Fin 5) (c : Dev nD) : par r (par r c) = c := by revert r c; decide +kernel

/-- A partner map as a permutation of the mesh. -/
def swap (r : Fin 5) : Dev nD ≃ Dev nD := ⟨par r, par r, par_par r, par_par r⟩

theorem dev1_eq (c : Dev nD) : (⟨k0_dev1 c, k0_dev1_lt c⟩ : Dev nD) = par 0 c := by revert c; decide +kernel
theorem dev2_eq (c : Dev nD) : (⟨k0_dev2 c, k0_dev2_lt c⟩ : Dev nD) = par 1 c := by revert c; decide +kernel
theorem dev3_eq (c : Dev nD) : (⟨k0_dev3 c, k0_dev3_lt c⟩ : Dev nD) = par 2 c := by revert c; decide +kernel
theorem dev4_eq (c : Dev nD) : (⟨k0_dev4 c, k0_dev4_lt c⟩ : Dev nD) = par 3 c := by revert c; decide +kernel
theorem dev5_eq (c : Dev nD) : (⟨k0_dev5 c, k0_dev5_lt c⟩ : Dev nD) = par 4 c := by revert c; decide +kernel

set_option backward.proofsInPublic true in
/-- The partner map that half `b` uses in round `t`, -/
def rnd : Bool → Fin 5 → Fin 5
  | false => ![2, 1, 0, 3, 4]
  | true => ![4, 3, 1, 0, 2]

set_option backward.proofsInPublic true in
/-- and the round in which half `b` uses map `r`. -/
def pos : Bool → Fin 5 → Fin 5
  | false => ![2, 1, 0, 3, 4]
  | true => ![3, 2, 4, 1, 0]

theorem rnd_pos (b : Bool) (r : Fin 5) : rnd b (pos b r) = r := by revert b r; decide
theorem pos_rnd (b : Bool) (t : Fin 5) : pos b (rnd b t) = t := by revert b t; decide

/-- The rounds of half `b` against the partner maps it uses in them. -/
def rounds (b : Bool) : Fin 5 ≃ Fin 5 := ⟨rnd b, pos b, pos_rnd b, rnd_pos b⟩

/-- The partner in round `t` of half `b`. -/
abbrev peer (b : Bool) (t : Fin 5) (c : Dev nD) : Dev nD := par (rnd b t) c

theorem peer_peer (b : Bool) (t : Fin 5) (c : Dev nD) : peer b t (peer b t c) = c := par_par _ c

theorem dev6_eq (c : Dev nD) : (⟨k0_dev6 c, k0_dev6_lt c⟩ : Dev nD) = peer false 0 c := by revert c; decide +kernel
theorem dev7_eq (c : Dev nD) : (⟨k0_dev7 c, k0_dev7_lt c⟩ : Dev nD) = peer true 0 c := by revert c; decide +kernel
theorem dev8_eq (c : Dev nD) : (⟨k0_dev8 c, k0_dev8_lt c⟩ : Dev nD) = peer false 1 c := by revert c; decide +kernel
theorem dev9_eq (c : Dev nD) : (⟨k0_dev9 c, k0_dev9_lt c⟩ : Dev nD) = peer true 1 c := by revert c; decide +kernel
theorem dev10_eq (c : Dev nD) : (⟨k0_dev10 c, k0_dev10_lt c⟩ : Dev nD) = peer false 2 c := by revert c; decide +kernel
theorem dev11_eq (c : Dev nD) : (⟨k0_dev11 c, k0_dev11_lt c⟩ : Dev nD) = peer true 2 c := by revert c; decide +kernel
theorem dev12_eq (c : Dev nD) : (⟨k0_dev12 c, k0_dev12_lt c⟩ : Dev nD) = peer false 3 c := by revert c; decide +kernel
theorem dev13_eq (c : Dev nD) : (⟨k0_dev13 c, k0_dev13_lt c⟩ : Dev nD) = peer true 3 c := by revert c; decide +kernel
theorem dev14_eq (c : Dev nD) : (⟨k0_dev14 c, k0_dev14_lt c⟩ : Dev nD) = peer false 4 c := by revert c; decide +kernel
theorem dev15_eq (c : Dev nD) : (⟨k0_dev15 c, k0_dev15_lt c⟩ : Dev nD) = peer true 4 c := by revert c; decide +kernel

/-! ## Buffers and their parts -/

/-- The running sum, the result's staging buffer, and the two landing buffers of five slots each. -/
abbrev accM : Memref sig .tc .vmem S256x256 .bf16 := Memref.whole cc0_scratch0
abbrev outM : Memref sig .tc .vmem S256x256 .f32 := Memref.whole cc0_stg5_0
abbrev landRef : Bool → Ref sig .tc
  | false => cc0_scratch1
  | true => cc0_scratch2
abbrev landM : Bool → Memref sig .tc .vmem S5x128x256 .bf16
  | false => Memref.whole cc0_scratch1
  | true => Memref.whole cc0_scratch2

/-- The first row of a half. -/
abbrev row0 : Bool → ℕ
  | false => 0
  | true => 128

theorem half_inb (b : Bool) : ∀ a, (![row0 b, 0] : Fin 2 → ℕ) a + S128x256.size a ≤ S256x256.size a := by
  revert b; decide
theorem slot_inb (t : Fin 5) : ∀ a, (![t.val, 0, 0] : Fin 3 → ℕ) a + S1x128x256.size a ≤ S5x128x256.size a := by
  revert t; decide
theorem sem_inb (t : Fin 5) : ∀ a, (![t.val] : Fin 1 → ℕ) a + S1.size a ≤ S5.size a := by
  revert t; decide

/-- The rows of a half, the slot of a round, as rectangles; -/
abbrev halfR (b : Bool) : Rect S256x256 := Rect.unit (s := S256x256) ![row0 b, 0] S128x256.size (half_inb b)
abbrev slotR (t : Fin 5) : Rect S5x128x256 := Rect.unit (s := S5x128x256) ![t.val, 0, 0] S1x128x256.size (slot_inb t)

/-- the half of the running sum that is sent, the slot that is received into. -/
abbrev halfM (b : Bool) : Memref sig .tc .vmem S128x256 .bf16 := accM.slice (halfR b) (fun _ => rfl)
abbrev slotM (b : Bool) (t : Fin 5) : Memref sig .tc .vmem S128x256 .bf16 :=
  ((landM b).slice (slotR t) (fun _ => rfl)).squeeze S128x256 squeezes_S1x128x256_S128x256

/-! ## Semaphores -/

/-- The barrier semaphore. -/
abbrev barS : Sem sig := (SemArray.scalar (sig.barrier 0 rfl) : Sems sig S_).sem

/-- The transfers' semaphore arrays: of the senders (`false`) and of the receivers (`true`), by half. -/
abbrev semArr : Bool → Bool → DmaSems sig S5
  | false, false => cc0_scratch3
  | true, false => cc0_scratch4
  | false, true => cc0_scratch5
  | true, true => cc0_scratch6

/-- The twenty of them: sender or receiver, half, round. -/
abbrev Xf : Type := Bool × Bool × Fin 5

abbrev xsem (x : Xf) : DmaSem sig :=
  (((semArr x.1 x.2.1).slice (Rect.unit (s := S5) ![x.2.2.val] S1.size (sem_inb x.2.2))).squeeze S_ squeezes_S1_S_).sem

theorem xsem_val (x : Xf) : (xsem x).val = 6 + (10 * x.2.1.toNat + 5 * x.1.toNat + x.2.2.val) := by
  obtain ⟨d, b, t⟩ := x
  revert d b t
  decide +kernel

/-- The semaphores of the protocol: the barrier's and the transfers'. -/
abbrev osem (x : Xf) : SemLoc sig := .dma (xsem x)
abbrev csem : Option Xf → SemLoc sig
  | none => .reg barS
  | some x => osem x

/-- Which of the protocol's semaphores a semaphore is, if any. -/
def kind : SemLoc sig → Option (Option Xf)
  | .reg s => if s = barS then some none else none
  | .dma q => if h : 6 ≤ q.val ∧ q.val < 26 then
      some (some (decide (5 ≤ (q.val - 6) % 10), decide (10 ≤ q.val - 6), ⟨(q.val - 6) % 5, Nat.mod_lt _ (by decide)⟩))
    else none

theorem kind_bar : kind (.reg barS) = some none := by unfold kind; exact if_pos rfl

theorem kind_osem (x : Xf) : kind (osem x) = some (some x) := by
  obtain ⟨d, b, t⟩ := x
  unfold kind osem
  dsimp only
  simp only [xsem_val]
  revert d b t
  decide +kernel

theorem kind_csem (k : Option Xf) : kind (csem k) = some k := by
  cases k
  · exact kind_bar
  · exact kind_osem _

theorem csem_inj : Function.Injective csem := fun a b h => by
  have := congrArg kind h
  rw [kind_csem, kind_csem] at this
  exact Option.some.inj this

theorem osem_inj : Function.Injective osem := fun a b h => Option.some.inj (csem_inj (a₁ := some a) (a₂ := some b) h)

/-- The protocol's cells: a semaphore of the protocol on a device. -/
abbrev cell (k : Option Xf) (c : Dev nD) : GSem nD τ sig := ((c : Thread nD τ), csem k)
abbrev barCell (c : Dev nD) : GSem nD τ sig := cell none c
abbrev sendCell (b : Bool) (t : Fin 5) (c : Dev nD) : GSem nD τ sig := cell (some (false, b, t)) c
abbrev recvCell (b : Bool) (t : Fin 5) (c : Dev nD) : GSem nD τ sig := cell (some (true, b, t)) c

abbrev kcell (ck : Dev nD × Option Xf) : GSem nD τ sig := cell ck.2 ck.1

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- What one transfer credits. -/
abbrev credit : ℕ := (halfM false).view.dmaCredit
theorem credit_pos : 0 < credit := View.dmaCredit_pos _ (by decide)
theorem credit_half (b : Bool) : (halfM b).view.dmaCredit = credit := by cases b <;> rfl
theorem credit_slot (b : Bool) (t : Fin 5) : (slotM b t).view.dmaCredit = credit := by cases b <;> rfl

end Cert.Butterfly

end
-- ==== Proof.Proto.lean ====
/-
# The protocol of the all-reduce

What the buffers hold from round to round, and the schedule of the twenty-one cells of every device:

* the barrier cell has five duties of one unit, duty `r` paid by the partner under map `r`, who hands
  over the two of its own landing slots that this device will write;
* the receive cell of a round has one duty, paid by the partner's transfer: the slot is back, holding
  the partner's running sum of that round;
* the send cell of a round has one duty, paid by the device's own transfer: its half is back.

Then what a device owes at the start, in the order it pays, and the levels by which its waits are
allowed.
-/
module

public import proofs.«01_k».proof.Proof.Mesh

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' resources (duties named by `Fin 5`) beside the pipeline's own. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s tokens, router weights, expert ids, its two experts' weights, shared weights, as staged. -/
def xIn (c : Dev nD) : Vec F S256x128 .f32 := (win0_0.blk (0 : Fin 1)).view.read (Elt F) (m ((c : Thread nD τ).loc main_arg0))
def rIn (c : Dev nD) : Vec F S128x64 .f32 := (win0_1.blk (0 : Fin 1)).view.read (Elt F) (m ((c : Thread nD τ).loc main_arg1))
def iIn (c : Dev nD) : Vec F S256x1 .i32 := (win0_2.blk (0 : Fin 1)).view.read (Elt F) (m ((c : Thread nD τ).loc main_arg2))
def eIn (c : Dev nD) : Vec F S2x128x256 .f32 := (win0_3.blk (0 : Fin 1)).view.read (Elt F) (m ((c : Thread nD τ).loc main_arg3))
def sIn (c : Dev nD) : Vec F S128x256 .f32 := (win0_4.blk (0 : Fin 1)).view.read (Elt F) (m ((c : Thread nD τ).loc main_arg4))

abbrev expM : Memref sig .tc .vmem S2x128x256 .f32 := Memref.whole cc0_stg3_0
theorem exp_inb (k : Fin 2) : ∀ a, (![k.val, 0, 0] : Fin 3 → ℕ) a + S1x128x256.size a ≤ S2x128x256.size a := by
  revert k; decide
abbrev expR (k : Fin 2) : Rect S2x128x256 := Rect.unit (s := S2x128x256) ![k.val, 0, 0] S1x128x256.size (exp_inb k)

/-- The weights of device `c`'s expert `k`. -/
def wIn (k : Fin 2) (c : Dev nD) : Vec F S1x128x256 .f32 := (expM.access (expR k)).read (Elt F) (eIn m c)

/-- The device's number as the kernel computes it. -/
abbrev devWord (c : Dev nD) : BitVec 32 := Scalar.remsi (Scalar.divsi (Dev.word c) 1#32) 32#32

/-- The gates of the device's two experts. -/
def gate0 (c : Dev nD) : FVec F S256x1 .f32 := k0_pay5 (devWord c) (xIn m c) (rIn m c) (iIn m c)
def gate1 (c : Dev nD) : FVec F S256x1 .f32 := k0_pay6 (devWord c) (xIn m c) (rIn m c) (iIn m c)

/-- The device's own share of a half, before the first exchange. -/
def part : Bool → Dev nD → FVec F S128x256 .bf16
  | false, c => k0_pay7 (k0_pay2 (xIn m c)) (gate0 m c) (gate1 m c) (wIn m 0 c) (wIn m 1 c)
  | true, c => k0_pay10 (gate0 m c) (gate1 m c) (k0_pay8 (k0_pay2 (xIn m c))) (k0_pay9 (k0_pay2 (xIn m c)) (wIn m 0 c)) (wIn m 1 c)

/-- A half as a slot of a landing buffer holds it. -/
def asSlot (X : FVec F S128x256 .bf16) : Vec F S1x128x256 .bf16 :=
  fun i => X ((Shape.reshapeEquiv squeezes_S1x128x256_S128x256.numel_eq).symm i)

/-- The running sum of half `b` on device `c` after `t` exchanges. -/
def acc (b : Bool) : ℕ → Dev nD → FVec F S128x256 .bf16
  | 0, c => part m b c
  | t + 1, c => k0_pay12 (acc b t c) (asSlot (acc b t (peer b (Fin.ofNat 5 t) c)))

/-- The shared expert's product, which the result starts from. -/
def shared (c : Dev nD) : FVec F S256x256 .f32 := k0_pay11 (k0_pay2 (xIn m c)) (sIn m c)

/-- The result with its upper rows completed, and with all. -/
def out0 (c : Dev nD) : (cc0_stg5_0 : Ref sig .tc).ty.Contents (Elt F) :=
  (outM.access (halfR false)).write (Elt F) (shared m c)
    (k0_pay20 ((outM.access (halfR false)).read (Elt F) (shared m c)) (acc m false 4 c) (asSlot (acc m false 4 (peer false 4 c)))) Finset.univ
def outAt (c : Dev nD) : (cc0_stg5_0 : Ref sig .tc).ty.Contents (Elt F) :=
  (outM.access (halfR true)).write (Elt F) (out0 m c)
    (k0_pay1 (k0_pay21 ((outM.access (halfR true)).read (Elt F) (out0 m c)))
      (k0_pay22 (acc m true 4 c) (asSlot (acc m true 4 (peer true 4 c))))) Finset.univ

/-! ## Who holds what -/

/-- Device `c` has half `b` of its running sum at `X`; -/
abbrev halfAt (b : Bool) (c : Dev nD) (X : FVec F S128x256 .bf16) : sProp 𝕄 := owns (c : Thread nD τ) (halfM b) fullShare X
/-- has slot `t` of half `b`'s landing buffer at `X`; -/
abbrev slotAt (b : Bool) (t : Fin 5) (c : Dev nD) (X : FVec F S128x256 .bf16) : sProp 𝕄 := owns (c : Thread nD τ) (slotM b t) fullShare X
/-- has them at some contents. -/
def halfAny (b : Bool) (c : Dev nD) : sProp 𝕄 := iprop(∃ X, halfAt b c X)
def slotAny (b : Bool) (t : Fin 5) (c : Dev nD) : sProp 𝕄 := iprop(∃ X, slotAt b t c X)

omit [FloatOps F] in
instance halfAny_storable (b : Bool) (c : Dev nD) : BI.Storable (upEmb : UEmb _ 𝕄) (halfAny (F := F) b c) := by
  unfold halfAny; infer_instance
omit [FloatOps F] in
instance slotAny_storable (b : Bool) (t : Fin 5) (c : Dev nD) : BI.Storable (upEmb : UEmb _ 𝕄) (slotAny (F := F) b t c) := by
  unfold slotAny; infer_instance

/-! ## The schedule -/

/-- What the partner under map `r` hands device `c` at the barrier: that partner's two slots that `c` writes. -/
def barPay (c : Dev nD) (r : Fin 5) : sProp 𝕄 :=
  iprop(slotAny false (pos false r) (par r c) ∗ slotAny true (pos true r) (par r c))

omit [FloatOps F] in
instance barPay_storable (c : Dev nD) (r : Fin 5) : BI.Storable (upEmb : UEmb _ 𝕄) (barPay (F := F) c r) := by
  unfold barPay; infer_instance

/-- What a duty of a cell hands over, by the cell's kind. -/
def pay (c : Dev nD) (r : Fin 5) : Option (Option Xf) → sProp 𝕄
  | none => iprop(emp)
  | some none => barPay c r
  | some (some (false, b, t)) => halfAt b c (acc m b t.val c)
  | some (some (true, b, t)) => slotAt b t c (acc m b t.val (peer b t c))

instance pay_storable (c : Dev nD) (r : Fin 5) (k) : BI.Storable (upEmb : UEmb _ 𝕄) (pay m c r k) := by
  unfold pay; split <;> infer_instance

def dutiesOf : Option (Option Xf) → Finset (Fin 5)
  | none => ∅
  | some none => Finset.univ
  | some (some _) => {0}

def amountOf : Option (Option Xf) → ℕ
  | some none => 1
  | _ => credit

theorem amountOf_pos (k) : 0 < amountOf k := by
  unfold amountOf; split
  · exact Nat.one_pos
  · exact credit_pos

def Rd : Rounds.Schedule (GSem nD τ sig) (Fin 5) 𝕄 where
  duties g r := if r = 0 ∧ g.1.2 = .tc then dutiesOf (kind g.2) else ∅
  unitless _ := False
  amount g _ _ := amountOf (kind g.2)
  payload g _ d := pay m g.1.1 d (kind g.2)
  amount_pos g _ _ _ := amountOf_pos _

instance Rd_payload_storable (g : GSem nD τ sig) (r : ℕ) (d : Fin 5) :
    BI.Storable (upEmb : UEmb _ 𝕄) ((Rd (F := F) m).payload g r d) := pay_storable m g.1.1 d (kind g.2)

section Sched
variable (k : Option Xf) (c : Dev nD)

theorem duties_cell : (Rd (F := F) m).duties (cell k c) 0 = dutiesOf (some k) := by
  dsimp only [Rd]; rw [if_pos ⟨rfl, rfl⟩, kind_csem]
theorem duties_later (g : GSem nD τ sig) : ∀ r, 1 ≤ r → (Rd (F := F) m).duties g r = ∅ :=
  fun r hr => by dsimp only [Rd]; rw [if_neg fun h => by omega]
theorem amount_cell (r : ℕ) (d : Fin 5) : (Rd (F := F) m).amount (cell k c) r d = amountOf (some k) := by
  dsimp only [Rd]; rw [kind_csem]
theorem payload_cell (r : ℕ) (d : Fin 5) : (Rd (F := F) m).payload (cell k c) r d = pay m c d (some k) := by
  dsimp only [Rd]; rw [kind_csem]

theorem expect_bar : (Rd (F := F) m).expect (barCell c) 0 = 5 := by
  unfold Schedule.expect Schedule.amountOf
  rw [duties_cell, Finset.sum_congr rfl fun d _ => amount_cell m none c 0 d]
  rfl
theorem expect_xf (x : Xf) : (Rd (F := F) m).expect (cell (some x) c) 0 = credit := by
  unfold Schedule.expect Schedule.amountOf
  rw [duties_cell]
  show Finset.sum {0} _ = _
  rw [Finset.sum_singleton, amount_cell]
  rfl

theorem rest_bar : bigSep ((Rd (F := F) m).duties (barCell c) 0 \ ∅) (fun d => (Rd (F := F) m).payload (barCell c) 0 d)
    = bigSep Finset.univ (barPay (F := F) c) := by
  rw [Finset.sdiff_empty, duties_cell]
  exact bigSep_congr fun d _ => payload_cell m none c 0 d
theorem rest_xf (x : Xf) : bigSep ((Rd (F := F) m).duties (cell (some x) c) 0 \ ∅) (fun d => (Rd (F := F) m).payload (cell (some x) c) 0 d)
    = pay m c 0 (some (some x)) := by
  rw [Finset.sdiff_empty, duties_cell]
  show bigSep {0} _ = _
  rw [bigSep_singleton, payload_cell]

end Sched

/-! ## What a device owes, in the order it pays -/

/-- A payment: a unit to the barrier of the partner under a map, or a transfer to a round's peer. -/
abbrev Due : Type := Fin 5 ⊕ (Bool × Fin 5)

def dueCell (c : Dev nD) : Due → GSem nD τ sig
  | .inl r => barCell (par r c)
  | .inr (b, t) => recvCell b t (peer b t c)
def dueAmt : Due → ℕ
  | .inl _ => 1
  | .inr _ => credit

/-- What is owed for a list of payments still to come, the next one peeled last. -/
def owed (c : Dev nD) : List Due → CellTallies nD τ sig Unit
  | [] => 0
  | d :: l => owed c l + tallyAt (dueCell c d) () (dueAmt d)

theorem owed_pos {c : Dev nD} {l : List Due} {g : GSem nD τ sig} {u : Unit} (h : 0 < owed c l g u) : ∃ d ∈ l, g = dueCell c d := by
  induction l with
  | nil => exact absurd h (Nat.lt_irrefl 0)
  | cons d l ih =>
    unfold owed at h
    rw [Pi.add_apply, Finsupp.add_apply, tallyAt_apply] at h
    by_cases hg : g = dueCell c d ∧ u = ()
    · exact ⟨d, List.mem_cons_self, hg.1⟩
    · rw [if_neg hg, Nat.add_zero] at h
      obtain ⟨d', hd', e⟩ := ih h
      exact ⟨d', List.mem_cons_of_mem _ hd', e⟩

/-- The transfers from round `t` on. -/
def xfersFrom (t : ℕ) : List Due :=
  ((List.finRange 5).drop t).flatMap fun t => [.inr (false, t), .inr (true, t)]
/-- All payments: the five barrier units, then the transfers. -/
def allDues : List Due := [.inl 0, .inl 1, .inl 2, .inl 3, .inl 4] ++ xfersFrom 0

/-! ## Levels -/

def lvKind : Option (Option Xf) → ℕ
  | some none => 1
  | some (some (true, _, t)) => 2 + t.val
  | _ => 0

def L (g : GSem nD τ sig) : Finset Unit := if g.1.2 = .tc then {()} else ∅
/-- Barrier cells lie at 1, the receive cells of round `t` at `2 + t`, everything else at 0. -/
def lv (g : GSem nD τ sig) (_ : Unit) : ℕ := lvKind (kind g.2)

theorem L_of_ne (g : GSem nD τ sig) (h : g.1.2 ≠ .tc) : L g = ∅ := if_neg h
theorem L_tc (c : Dev nD) (sm : SemLoc sig) : L ((c : Thread nD τ), sm) = {()} := if_pos rfl

def lvDue : Due → ℕ
  | .inl _ => 1
  | .inr (_, t) => 2 + t.val

theorem lv_due (c : Dev nD) (d : Due) (u : Unit) : lv (dueCell c d) u = lvDue d := by
  rcases d with r | ⟨b, t⟩
  · unfold lv dueCell; dsimp only [cell]; rw [kind_csem]; rfl
  · unfold lv dueCell; dsimp only [cell]; rw [kind_csem]; rfl

theorem L_due (c : Dev nD) (d : Due) : L (dueCell c d) = {()} := by
  rcases d with r | ⟨b, t⟩ <;> rfl

omit [FloatOps F] in
/-- A wait is allowed when every payment still owed lies strictly above it. -/
theorem mayWait (c : Dev nD) (sm : SemLoc sig) (l : List Due) (h : ∀ d ∈ l, lvKind (kind sm) < lvDue d) :
    (levAts L lv : sProp 𝕄) ⊢ MayWait (c : Thread nD τ) sm () (owed c l) := by
  refine MayOwe.of_cut (L := L) (lev := lv) (lvKind (kind sm)) (fun p hp => by rw [Finset.mem_singleton.mp hp, L_tc]; exact Finset.mem_singleton_self _)
    (fun g u hg => ?_) (fun p hp => by rw [Finset.mem_singleton.mp hp]; exact le_refl _) (fun g u hg => ?_)
  · obtain ⟨d, -, rfl⟩ := owed_pos hg
    rw [L_due]; exact Finset.mem_singleton_self _
  · obtain ⟨d, hd, rfl⟩ := owed_pos hg
    rw [lv_due]; exact h d hd

end Cert.Butterfly

end
-- ==== Proof.Views.lean ====
/-
# Halves and slots

The running sum is its two halves and a landing buffer its five slots: a whole buffer is taken apart
into the parts the transfers are on, and put together again. A load and a store on a half, a load on
a slot, and what a transfer leaves in a slot.
-/
module

public import proofs.«01_k».proof.Proof.Proto

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A whole buffer and a disjoint cover of it -/

section Cover
variable {T : Type} [Fintype T] [DecidableEq T] (c : Dev nD) (b : Ref sig .tc) (r : T → Rect b.ty.shape)
  (hr : ∀ t a, (r t).stride a = 1) (hd : ∀ t t', t ≠ t' → Disjoint (r t).set (r t').set)
  (hcov : (Finset.univ : Finset T).biUnion (fun t => (r t).set) = Finset.univ)
include hd hcov

omit [FloatOps F] in
theorem whole_split :
    (iprop(∃ f, ((c : Thread nD τ).loc b) ↦{fullShare} f) : sProp 𝕄)
      ⊢ bigSep Finset.univ fun t => iprop(∃ X, owns (c : Thread nD τ) ((Memref.whole b).slice (r t) (hr t)) fullShare X) := by
  iintro ⟨%f, H⟩
  ihave H1 := (Entails.of_eq (owns_whole (c : Thread nD τ) b fullShare f).symm) $$ H
  ihave H2 := (owns_rects (c : Thread nD τ) (Memref.whole b) fullShare r hr hd hcov f) $$ H1
  have hm : (bigSep Finset.univ fun t => owns (c : Thread nD τ) ((Memref.whole b).slice (r t) (hr t)) fullShare (fun j => f ((r t).emb j)) : sProp 𝕄)
      ⊢ bigSep Finset.univ fun t => iprop(∃ X, owns (c : Thread nD τ) ((Memref.whole b).slice (r t) (hr t)) fullShare X) :=
    bigSep_mono fun t _ => show iprop(owns (c : Thread nD τ) ((Memref.whole b).slice (r t) (hr t)) fullShare (fun j => f ((r t).emb j)))
        ⊢ iprop(∃ X, owns (c : Thread nD τ) ((Memref.whole b).slice (r t) (hr t)) fullShare X) from by iintro H; iexists _; iexact H
  iapply hm
  iexact H2

omit [FloatOps F] in
theorem whole_join (f₀ : Buf (Elt F) ((c : Thread nD τ).loc b)) :
    (bigSep Finset.univ fun t => iprop(∃ X, owns (c : Thread nD τ) ((Memref.whole b).slice (r t) (hr t)) fullShare X))
      ⊢ (iprop(∃ f, ((c : Thread nD τ).loc b) ↦{fullShare} f) : sProp 𝕄) := by
  let K (t : T) : Finset (Idx ((c : Thread nD τ).loc b)) := ((Memref.whole b).view.slice (r t)).set
  have hd' (t t' : T) (h : t ≠ t') : Disjoint (K t) (K t') := by
    show Disjoint ((Memref.whole b).view.slice (r t)).set ((Memref.whole b).view.slice (r t')).set
    rw [View.set_slice, View.set_slice]; exact (Finset.disjoint_map _).mpr (hd t t' h)
  have hall : (Finset.univ : Finset T).biUnion K = Finset.univ := by
    ext i
    refine ⟨fun _ => Finset.mem_univ _, fun _ => ?_⟩
    obtain ⟨t, -, ht⟩ := Finset.mem_biUnion.mp (hcov.symm ▸ Finset.mem_univ i)
    refine Finset.mem_biUnion.mpr ⟨t, Finset.mem_univ _, ?_⟩
    show i ∈ ((View.whole b).slice (r t)).set
    rw [View.set_slice_whole]; exact ht
  have h1 : (bigSep Finset.univ fun t => iprop(∃ X, owns (c : Thread nD τ) ((Memref.whole b).slice (r t) (hr t)) fullShare X))
      ⊢ (bigSep Finset.univ fun t => iprop(∃ f : Buf (Elt F) ((c : Thread nD τ).loc b),
          ((c : Thread nD τ).loc b) ↦[K t]{fullShare} f) : sProp 𝕄) :=
    bigSep_mono fun t _ => show iprop(∃ X, owns (c : Thread nD τ) ((Memref.whole b).slice (r t) (hr t)) fullShare X)
        ⊢ iprop(∃ f : Buf (Elt F) ((c : Thread nD τ).loc b), ((c : Thread nD τ).loc b) ↦[K t]{fullShare} f) from by
      unfold owns
      iintro ⟨%X, %f, -, H⟩
      iexists f
      iexact H
  haveI : Nonempty (Buf (Elt F) ((c : Thread nD τ).loc b)) := ⟨f₀⟩
  refine h1.trans ((bigSep_exists_pi (Y := fun _ => Buf (Elt F) ((c : Thread nD τ).loc b)) _ _).trans ?_)
  iintro ⟨%fs, H⟩
  ihave H1 := (pointsTo_biUnion_join (Finset.univ : Finset T) K fs f₀
    (fun t _ t' _ h => hd' t t' h)) $$ H
  icases H1 with ⟨%g, -, H⟩
  rw [hall]
  iexists g
  iexact H

end Cover

/-! ## The running sum -/

theorem half_disjoint : ∀ b b' : Bool, b ≠ b' → Disjoint (halfR b).set (halfR b').set
  | false, false, h => absurd rfl h
  | false, true, _ => Rect.unit_disjoint (s := S256x256) 0 (.inl (by decide))
  | true, false, _ => Rect.unit_disjoint (s := S256x256) 0 (.inr (by decide))
  | true, true, h => absurd rfl h

theorem half_cover : (Finset.univ : Finset Bool).biUnion (fun b => (halfR b).set) = Finset.univ := by
  ext i
  refine ⟨fun _ => Finset.mem_univ _, fun _ => Finset.mem_biUnion.mpr ⟨decide (128 ≤ (i 0).val), Finset.mem_univ _, ?_⟩⟩
  have h0 : (i 0).val < 256 := (i 0).isLt
  have h1 : (i 1).val < 256 := (i 1).isLt
  rw [Rect.mem_set_unit]
  intro a
  by_cases h : 128 ≤ (i 0).val
  · rw [decide_eq_true h]
    fin_cases a
    · exact ⟨h, h0⟩
    · exact ⟨Nat.zero_le _, h1⟩
  · rw [decide_eq_false h]
    fin_cases a
    · exact ⟨Nat.zero_le _, by have := Nat.lt_of_not_le h; exact this⟩
    · exact ⟨Nat.zero_le _, h1⟩

omit [FloatOps F] in
theorem acc_split (c : Dev nD) :
    (iprop(∃ f, ((c : Thread nD τ).loc cc0_scratch0) ↦{fullShare} f) : sProp 𝕄) ⊢ bigSep Finset.univ fun b => halfAny b c := by
  unfold halfAny
  exact whole_split c cc0_scratch0 halfR (fun _ _ => rfl) half_disjoint half_cover

theorem acc_join (c : Dev nD) :
    (bigSep Finset.univ fun b => halfAny b c) ⊢ (iprop(∃ f, ((c : Thread nD τ).loc cc0_scratch0) ↦{fullShare} f) : sProp 𝕄) := by
  unfold halfAny
  exact whole_join c cc0_scratch0 halfR (fun _ _ => rfl) half_disjoint half_cover (constant S256x256 .bf16 0x0000#16 : FVec F S256x256 .bf16)

/-! ## The landing buffers -/

theorem slot_disjoint (t t' : Fin 5) (h : t ≠ t') : Disjoint (slotR t).set (slotR t').set :=
  Rect.unit_disjoint (s := S5x128x256) 0 (by
    have : t.val ≠ t'.val := fun e => h (Fin.ext e)
    show t.val + 1 ≤ t'.val ∨ t'.val + 1 ≤ t.val
    omega)

theorem slot_cover : (Finset.univ : Finset (Fin 5)).biUnion (fun t => (slotR t).set) = Finset.univ := by
  ext i
  refine ⟨fun _ => Finset.mem_univ _, fun _ => Finset.mem_biUnion.mpr ⟨⟨(i 0).val, (i 0).isLt⟩, Finset.mem_univ _, ?_⟩⟩
  rw [Rect.mem_set_unit]
  intro a
  fin_cases a
  · exact ⟨le_refl _, Nat.lt_succ_self _⟩
  · exact ⟨Nat.zero_le _, by have : (i 1).val < 128 := (i 1).isLt; simpa using this⟩
  · exact ⟨Nat.zero_le _, by have : (i 2).val < 256 := (i 2).isLt; simpa using this⟩

/-- A slot owned through its squeezed form, or as it stands. -/
theorem slot_squeeze (b : Bool) (t : Fin 5) (c : Dev nD) :
    (slotAny b t c : sProp 𝕄) ⊣⊢ iprop(∃ X, owns (c : Thread nD τ) ((landM b).slice (slotR t) (fun _ => rfl)) fullShare X) := by
  constructor
  · unfold slotAny slotAt owns
    iintro ⟨%X, %f, -, H⟩
    iexists _, f
    isplitr
    · ipureintro; rfl
    · rw [show (slotM b t).view.set = ((landM b).slice (slotR t) (fun _ => rfl)).view.set from View.set_reshape _ _]
      iexact H
  · unfold slotAny slotAt owns
    iintro ⟨%X, %f, -, H⟩
    iexists _, f
    isplitr
    · ipureintro; rfl
    · rw [show (slotM b t).view.set = ((landM b).slice (slotR t) (fun _ => rfl)).view.set from View.set_reshape _ _]
      iexact H

theorem land_split (b : Bool) (c : Dev nD) :
    (iprop(∃ f, ((c : Thread nD τ).loc (landRef b)) ↦{fullShare} f) : sProp 𝕄) ⊢ bigSep Finset.univ fun t => slotAny b t c := by
  refine BIBase.Entails.trans ?_ (bigSep_mono fun t _ => (slot_squeeze b t c).2)
  cases b
  · exact whole_split c cc0_scratch1 slotR (fun _ _ => rfl) slot_disjoint slot_cover
  · exact whole_split c cc0_scratch2 slotR (fun _ _ => rfl) slot_disjoint slot_cover

theorem land_join (b : Bool) (c : Dev nD) :
    (bigSep Finset.univ fun t => slotAny b t c) ⊢ (iprop(∃ f, ((c : Thread nD τ).loc (landRef b)) ↦{fullShare} f) : sProp 𝕄) := by
  refine (bigSep_mono fun t _ => (slot_squeeze b t c).1).trans ?_
  cases b
  · exact whole_join c cc0_scratch1 slotR (fun _ _ => rfl) slot_disjoint slot_cover (constant S5x128x256 .bf16 0x0000#16 : FVec F S5x128x256 .bf16)
  · exact whole_join c cc0_scratch2 slotR (fun _ _ => rfl) slot_disjoint slot_cover (constant S5x128x256 .bf16 0x0000#16 : FVec F S5x128x256 .bf16)

/-! ## Loads and stores on the parts -/

abbrev 𝒱₀ : Variants := Variants.none

/-- The weakest precondition of a device's program in this kernel. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable (c : Dev nD) {α : Type}

theorem load_half {Q : α → sProp 𝕄} (b : Bool) (X : FVec F S128x256 .bf16) {hl : accM.view.LoadsAt (halfR b).toLoadRect}
    {k : Vec F S128x256 .bf16 → Prog (TpuEff nD τ sig (Elt F) Λ₀ .tc) α} :
    halfAt b c X ⊢ iprop((halfAt b c X -∗ WP c (k X) Q) -∗ WP c (.op (.load accM (halfR b).toLoadRect hl) k) Q) := by
  unfold halfAt owns
  iintro ⟨%f, %hf, H⟩ Hk
  iapply (wp_load_rect 𝒱₀ (c : Thread nD τ) none Set.univ (m := accM) (r := halfR b) (f := f) subset_rfl) $$ H
  iintro H
  have hf' : (accM.access (halfR b)).read (Elt F) f = X := hf
  rw [hf']
  iapply Hk
  iexists f
  isplitr
  · ipureintro; exact hf
  · iexact H

theorem store_half {Q : α → sProp 𝕄} (b : Bool) (X Y : FVec F S128x256 .bf16) {hx hm}
    {k : PUnit → Prog (TpuEff nD τ sig (Elt F) Λ₀ .tc) α} :
    halfAt b c X ⊢ iprop((halfAt b c Y -∗ WP c (k ⟨⟩) Q) -∗ WP c (.op (.store accM (halfR b) Y Finset.univ hx hm) k) Q) := by
  unfold halfAt owns
  iintro ⟨%f, %hf, H⟩ Hk
  iapply (wp_store 𝒱₀ (c : Thread nD τ) none Set.univ (m := accM) (r := halfR b) (Mk := Finset.univ) (f := f)
    (by rw [View.setOn_univ])) $$ H
  iintro H
  iapply Hk
  iexists _
  isplitr
  · ipureintro; exact View.read_write_univ f Y
  · iexact H

theorem load_slot {Q : α → sProp 𝕄} (b : Bool) (t : Fin 5) (X : FVec F S128x256 .bf16) {hl : (landM b).view.LoadsAt (slotR t).toLoadRect}
    {k : Vec F S1x128x256 .bf16 → Prog (TpuEff nD τ sig (Elt F) Λ₀ .tc) α} :
    slotAt b t c X ⊢ iprop((slotAt b t c X -∗ WP c (k (asSlot X)) Q) -∗ WP c (.op (.load (landM b) (slotR t).toLoadRect hl) k) Q) := by
  unfold slotAt owns
  iintro ⟨%f, %hf, H⟩ Hk
  iapply (wp_load_rect 𝒱₀ (c : Thread nD τ) none Set.univ (m := landM b) (r := slotR t) (f := f)
    (S := (slotM b t).view.set) (by rw [show (slotM b t).view.set = ((landM b).access (slotR t)).set from View.set_reshape _ _])) $$ H
  iintro H
  rw [show ((landM b).access (slotR t)).read (Elt F) f = asSlot X from by
    funext i
    rw [← hf]
    show _ = (((landM b).access (slotR t)).reshape S128x256 _).read (Elt F) f _
    simp [View.read, asSlot]]
  iapply Hk
  iexists f
  isplitr
  · ipureintro; exact hf
  · iexact H

end Steps

end Cert.Butterfly

end
-- ==== Proof.Steps.lean ====
/-
# One step of the protocol at a time

The rule of each remote operation of the kernel's body, at any device, half and round: a unit to a
partner's barrier, the wait on the own barrier, the start of a transfer, the wait for its end and the
wait for the peer's. Each takes the resources of its own cells only and closes the cells it has
finished with.
-/
module

public import proofs.«01_k».proof.Proof.Views

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Every cell's invariant, under the names `K`, and that its round 0 is reached. -/
def records (K : Dev nD × Option Xf → ℕ) : sProp 𝕄 :=
  iprop((bigSep Finset.univ fun ck : Dev nD × Option Xf => cellInv ER (Rd m) (K ck) (kcell ck))
    ∗ bigSep Finset.univ fun ck : Dev nD × Option Xf => reached ER (kcell ck) 0)

instance records_persistent (K : Dev nD × Option Xf → ℕ) : BI.Persistent (records m K) := by unfold records; infer_instance

theorem records_inv (K : Dev nD × Option Xf → ℕ) (k : Option Xf) (c : Dev nD) :
    records m K ⊢ cellInv ER (Rd m) (K (c, k)) (cell k c) := by
  unfold records
  iintro ⟨H, -⟩
  iapply (show (bigSep Finset.univ fun ck : Dev nD × Option Xf => (cellInv ER (Rd m) (K ck) (kcell ck) : sProp 𝕄))
    ⊢ cellInv ER (Rd m) (K (c, k)) (cell k c) from bigSep_elim (Finset.mem_univ (c, k)))
  iexact H

theorem records_reached (K : Dev nD × Option Xf → ℕ) (k : Option Xf) (c : Dev nD) :
    records m K ⊢ reached ER (cell k c) 0 := by
  unfold records
  iintro ⟨-, H⟩
  iapply (show (bigSep Finset.univ fun ck : Dev nD × Option Xf => (reached ER (kcell ck) 0 : sProp 𝕄))
    ⊢ reached ER (cell k c) 0 from bigSep_elim (Finset.mem_univ (c, k)))
  iexact H

/-- Device `c` owes the payments `l`, whatever it has waited on. -/
def dues (c : Dev nD) (l : List Due) : sProp 𝕄 := iprop(∃ W, owes (c : Thread nD τ) (owed c l) W)

section Steps
variable (K : Dev nD × Option Xf → ℕ) (c : Dev nD) {α : Type}

/-- A unit to the barrier of the partner under map `r`, with the two slots that partner writes. -/
theorem signal_step {Q : α → sProp 𝕄} (r : Fin 5) (n : Dev nD) (hn : n = par r c) (l : List Due) (k' : ℕ) (hk' : k' = 1)
    {k : PUnit → Prog (TpuEff nD τ sig (Elt F) Λ₀ .tc) α} :
    iprop(records m K ∗ dues c (.inl r :: l) ∗ dutyTok ER (barCell (par r c)) 0 r
        ∗ slotAny false (pos false r) c ∗ slotAny true (pos true r) c)
      ⊢ iprop((dues c l -∗ WP c (k ⟨⟩) Q) -∗ WP c (.op (.semSignal (n : Thread nD τ) barS k') k) Q) := by
  subst hn hk'
  unfold dues slotAny
  iintro ⟨#Hrec, ⟨%W, HO⟩, Htok, HA, HB⟩ Hk
  iapply (Rounds.wp_signal 𝒱₀ ER (Rd m) (c : Thread nD τ) none (dst := (par r c : Thread nD τ)) (κ := K (par r c, none))
      (d := r) (by rw [duties_cell m none (par r c)]; exact Finset.mem_univ _) (amount_cell m none (par r c) 0 r) () (owed c l) rfl)
    $$ [HO Htok HA HB]
  · isplitr; · iapply (records_inv m K none (par r c)); iexact Hrec
    isplitl [HO]; · iexact HO
    isplitl [Htok]; · iexact Htok
    isplitl [HA HB]
    · have hp : (Rd m).payload (barCell (par r c)) 0 r = iprop(slotAny (F := F) false (pos false r) c ∗ slotAny true (pos true r) c) := by
        rw [payload_cell m none (par r c)]
        show barPay (par r c) r = _
        unfold barPay
        rw [par_par]
      rw [hp]
      unfold slotAny
      isplitl [HA]
      · iexact HA
      · iexact HB
    · iapply (records_reached m K none (par r c)); iexact Hrec
  iintro HO
  iapply Hk
  iexists W
  iexact HO

/-- The wait on the own barrier: all five partners' slots, and the barrier cell closed. -/
theorem wait_bar {Q : α → sProp 𝕄} (l : List Due) (hl : ∀ d ∈ l, 1 < lvDue d) (k' : ℕ) (hk' : k' = 5)
    {k : PUnit → Prog (TpuEff nD τ sig (Elt F) Λ₀ .tc) α} :
    iprop(records m K ∗ levAts L lv ∗ dues c l ∗ cred (tallyAt (barCell c) () 5) ∗ atPos ER (barCell c) 0 ∅ 0)
      ⊢ iprop(((dues c l ∗ (bigSep Finset.univ (barPay (F := F) c)) ∗ semVal (barCell c) 0) -∗ WP c (k ⟨⟩) Q)
          -∗ WP c (.op (.semWait barS k') k) Q) := by
  subst hk'
  unfold dues
  iintro ⟨#Hrec, #Hlev, ⟨%W, HO⟩, Hc, Hat⟩ Hk
  iapply (Rounds.wp_wait_rest_token 𝒱₀ ER (Rd m) (c : Thread nD τ) none (κ := K (c, none))
      (wpE_semWait_eq 𝒱₀ (c : Thread nD τ) none Set.univ) (Set.mem_univ _) () (O := owed c l) (W := W) (R := 0) (m := 0) (T := ∅)
      (by rw [Nat.zero_add]; exact (expect_bar m c).symm)) $$ [Hc HO Hat]
  · isplitr; · iapply (records_inv m K none c); iexact Hrec
    isplitl [Hc]; · iexact Hc
    isplitl [HO]; · iexact HO
    isplitr
    · iapply (mayWait c (.reg barS) l (by rw [kind_bar]; exact hl)); iexact Hlev
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iapply (records_inv m K none c); iexact Hrec
    iexact Hat
  iapply Hk
  isplitl [HO]; · iexists _; iexact HO
  isplitl [Hp]
  · iexact Hp
  · iexact Hz

/-- The start of round `t`'s transfer of half `b`: the half goes, with the peer's slot, to be had back at the waits. -/
theorem start_step {Q : α → sProp 𝕄} (b : Bool) (t : Fin 5) (n : Dev nD) (hn : n = peer b t c) (l : List Due)
    {hsc : (slotM b t : Memref sig (Dev.tc n : Thread nD τ).2.kind .vmem S128x256 .bf16).view.ref.isScScratch = false}
    {hsrc : (halfM b).view.WordExact} {hdst : (slotM b t).view.WordExact}
    {hsem : DmaTarget.Typed .vmem (.dma (xsem (true, b, t)))
      (.remote (Dev.tc n : Thread nD τ) (slotM b t : Memref sig (Dev.tc n : Thread nD τ).2.kind .vmem S128x256 .bf16) (.dma (xsem (false, b, t))) hsc)}
    {k : PUnit → Prog (TpuEff nD τ sig (Elt F) Λ₀ .tc) α} :
    iprop(records m K ∗ dues c (.inr (b, t) :: l) ∗ dutyTok ER (sendCell b t c) 0 0 ∗ dutyTok ER (recvCell b t (peer b t c)) 0 0
        ∗ halfAt b c (acc m b t.val c) ∗ slotAny b t (peer b t c))
      ⊢ iprop(((cred (tallyAt (sendCell b t c) () credit) ∗ dues c l) -∗ WP c (k ⟨⟩) Q)
          -∗ WP c (.op (.enqueueDma (halfM b) (.remote (Dev.tc n : Thread nD τ) (slotM b t) (.dma (xsem (false, b, t))) hsc)
              (.dma (xsem (true, b, t))) hsrc hdst hsem) k) Q) := by
  subst hn
  unfold dues slotAny halfAt slotAt owns
  iintro ⟨#Hrec, ⟨%W, HO⟩, HtS, HtR, ⟨%fs, %hfs, Hsrc⟩, ⟨%X, %fd, -, Hdst⟩⟩ Hk
  iapply (Rounds.wp_send_pointsTo 𝒱₀ ER (Rd m) (c : Thread nD τ) none (κ₁ := K (c, some (false, b, t))) (κ₂ := K (peer b t c, some (true, b, t)))
      (r₁ := 0) (r₂ := 0) (d₁ := 0) (d₂ := 0) (fs := fs) (fd := fd)
      (by rw [duties_cell m (some (false, b, t)) c]; exact Finset.mem_singleton_self _)
      (by rw [duties_cell m (some (true, b, t)) (peer b t c)]; exact Finset.mem_singleton_self _)
      () () credit (by exact credit_slot b t) (amount_cell m (some (false, b, t)) c 0 0) (amount_cell m (some (true, b, t)) (peer b t c) 0 0)
      (owed c l) rfl (W := W)
      (by
        rw [payload_cell m (some (false, b, t)) c]
        show _ ⊢ halfAt b c (acc m b t.val c)
        unfold halfAt owns
        iintro H
        iexists fs
        isplitr
        · ipureintro; exact hfs
        · iexact H)
      (by
        rw [payload_cell m (some (true, b, t)) (peer b t c)]
        show _ ⊢ slotAt b t (peer b t c) (acc m b t.val (peer b t (peer b t c)))
        unfold slotAt owns
        rw [peer_peer]
        iintro H
        iexists ((slotM b t).view.write (Elt F) fd ((halfM b).view.read (Elt F) fs) Finset.univ)
        isplitr
        · ipureintro; exact (View.read_write_univ fd _).trans hfs
        · iexact H)) $$ [HO HtS HtR Hsrc Hdst]
  · isplitr; · iapply (records_inv m K (some (false, b, t)) c); iexact Hrec
    isplitr; · iapply (records_inv m K (some (true, b, t)) (peer b t c)); iexact Hrec
    isplitl [Hsrc]; · iexact Hsrc
    isplitl [Hdst]; · iexact Hdst
    isplitl [HO]; · iexact HO
    isplitl [HtS]; · iexact HtS
    isplitr; · iapply (records_reached m K (some (false, b, t)) c); iexact Hrec
    isplitl [HtR]; · iexact HtR
    iapply (records_reached m K (some (true, b, t)) (peer b t c)); iexact Hrec
  iintro ⟨Hc, HO⟩
  iapply Hk
  isplitl [Hc]; · iexact Hc
  iexists W
  iexact HO

/-- A wait on a transfer cell: what its duty hands over, and the cell closed. -/
theorem wait_xf {Q : α → sProp 𝕄} (x : Xf) (l : List Due) (hl : ∀ d ∈ l, lvKind (some (some x)) < lvDue d)
    {w : TpuEff nD τ sig (Elt F) Λ₀ .tc PUnit} {k' : ℕ} (hk' : k' = credit)
    (hw : ∀ Kt : PUnit → sProp 𝕄, wpE (defs₀ (F := F)) 𝒱₀ (c : Thread nD τ) none Set.univ w Kt = waitSpec (c : Thread nD τ) Set.univ (osem x) k' Kt)
    {k : PUnit → Prog (TpuEff nD τ sig (Elt F) Λ₀ .tc) α} :
    iprop(records m K ∗ levAts L lv ∗ dues c l ∗ cred (tallyAt (cell (some x) c) () credit) ∗ atPos ER (cell (some x) c) 0 ∅ 0)
      ⊢ iprop(((dues c l ∗ pay m c 0 (some (some x)) ∗ semVal (cell (some x) c) 0) -∗ WP c (k ⟨⟩) Q)
          -∗ WP c (.op w k) Q) := by
  subst hk'
  unfold dues
  iintro ⟨#Hrec, #Hlev, ⟨%W, HO⟩, Hc, Hat⟩ Hk
  iapply (Rounds.wp_wait_rest_token 𝒱₀ ER (Rd m) (c : Thread nD τ) none (κ := K (c, some x))
      hw (Set.mem_univ _) () (O := owed c l) (W := W) (R := 0) (m := 0) (T := ∅)
      (by rw [Nat.zero_add]; exact (expect_xf m c x).symm)) $$ [Hc HO Hat]
  · isplitr; · iapply (records_inv m K (some x) c); iexact Hrec
    isplitl [Hc]; · iexact Hc
    isplitl [HO]; · iexact HO
    isplitr
    · iapply (mayWait c (osem x) l (by rw [kind_osem]; exact hl)); iexact Hlev
    iexact Hat
  iintro ⟨HO, Hat, -, Hpay⟩
  ihave Hp := (Entails.of_eq (rest_xf m c x)) $$ Hpay
  imod (Rounds.cell_close ER (Rd m) (Set.mem_univ (K (c, some x))) (fun h => h) (R := 0 + 1) (duties_later m (cell (some x) c))) $$ [Hat] with Hz
  · isplitr; · iapply (records_inv m K (some x) c); iexact Hrec
    iexact Hat
  iapply Hk
  isplitl [HO]; · iexists _; iexact HO
  isplitl [Hp]
  · iexact Hp
  · iexact Hz

theorem lvDue_pos (d : Due) : 0 < lvDue d := by
  rcases d with r | ⟨b, t⟩
  · exact Nat.one_pos
  · exact Nat.lt_of_lt_of_le Nat.two_pos (Nat.le_add_right _ _)

/-- The end of the own transfer: the half is back. -/
theorem wait_send {Q : α → sProp 𝕄} (b : Bool) (t : Fin 5) (l : List Due) {src : Memref sig (c : Thread nD τ).2.kind .vmem S128x256 .bf16}
    {hsrc : src.view.WordExact} {hdst : (halfM b).view.WordExact}
    {k : PUnit → Prog (TpuEff nD τ sig (Elt F) Λ₀ .tc) α} :
    iprop(records m K ∗ levAts L lv ∗ dues c l ∗ cred (tallyAt (sendCell b t c) () credit) ∗ atPos ER (sendCell b t c) 0 ∅ 0)
      ⊢ iprop(((dues c l ∗ halfAt b c (acc m b t.val c) ∗ semVal (sendCell b t c) 0) -∗ WP c (k ⟨⟩) Q)
          -∗ WP c (.op (TpuEff.waitDma2 (p := (c : Thread nD τ).2) (xsem (false, b, t)) src (halfM b) hsrc hdst) k) Q) :=
  wait_xf m K c (false, b, t) l (fun d _ => lvDue_pos d) (credit_half b)
    (wpE_waitDma2_eq 𝒱₀ (c : Thread nD τ) none Set.univ)

/-- The end of the peer's transfer: the slot is back, holding the peer's running sum. -/
theorem wait_recv {Q : α → sProp 𝕄} (b : Bool) (t : Fin 5) (l : List Due) (hl : ∀ d ∈ l, 2 + t.val < lvDue d)
    {src : Memref sig (c : Thread nD τ).2.kind .vmem S128x256 .bf16}
    {hsrc : src.view.WordExact} {hdst : (slotM b t).view.WordExact}
    {k : PUnit → Prog (TpuEff nD τ sig (Elt F) Λ₀ .tc) α} :
    iprop(records m K ∗ levAts L lv ∗ dues c l ∗ cred (tallyAt (recvCell b t c) () credit) ∗ atPos ER (recvCell b t c) 0 ∅ 0)
      ⊢ iprop(((dues c l ∗ slotAt b t c (acc m b t.val (peer b t c)) ∗ semVal (recvCell b t c) 0) -∗ WP c (k ⟨⟩) Q)
          -∗ WP c (.op (TpuEff.waitDma2 (p := (c : Thread nD τ).2) (xsem (true, b, t)) src (slotM b t) hsrc hdst) k) Q) :=
  wait_xf m K c (true, b, t) l hl (credit_slot b t)
    (wpE_waitDma2_eq 𝒱₀ (c : Thread nD τ) none Set.univ)

end Steps

end Cert.Butterfly

end
-- ==== Proof.Exchange.lean ====
/-
# One round of one half

A round of half `b` on a device: the start of its transfer, and the exchange that follows — both waits, the addition
of what came from the peer. What a device holds before a round, while it is under way and after it, each as one
resource.
-/
module

public import proofs.«01_k».proof.Proof.Steps

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the launch gives a device for round `t` of half `b`: the right to pay its own send cell and the peer's receive
    cell, its place at its own two cells, and its receive cell's credit. -/
def kit (b : Bool) (t : Fin 5) (c : Dev nD) : sProp 𝕄 :=
  iprop(dutyTok ER (sendCell b t c) 0 0 ∗ dutyTok ER (recvCell b t (peer b t c)) 0 0
    ∗ atPos ER (sendCell b t c) 0 ∅ 0 ∗ atPos ER (recvCell b t c) 0 ∅ 0 ∗ cred (tallyAt (recvCell b t c) () credit))

/-- While the round is under way. -/
def flight (b : Bool) (t : Fin 5) (c : Dev nD) : sProp 𝕄 :=
  iprop(atPos ER (sendCell b t c) 0 ∅ 0 ∗ atPos ER (recvCell b t c) 0 ∅ 0 ∗ cred (tallyAt (recvCell b t c) () credit)
    ∗ cred (tallyAt (sendCell b t c) () credit))

/-- After it: the landing slot, and both cells at zero. -/
def done (b : Bool) (t : Fin 5) (c : Dev nD) : sProp 𝕄 :=
  iprop(slotAny b t c ∗ semVal (sendCell b t c) 0 ∗ semVal (recvCell b t c) 0)

/-- The payments still to come after the first `n`. -/
def due (n : ℕ) : List Due := allDues.drop n

/-- What lasts through the body: every cell's record, the levels, and what is still owed. -/
def standing (K : Dev nD × Option Xf → ℕ) (c : Dev nD) (n : ℕ) : sProp 𝕄 := iprop(records m K ∗ levAts L lv ∗ dues c (due n))

section Rounds
variable (K : Dev nD × Option Xf → ℕ) (c : Dev nD) {α : Type}

/-- What goes with the unit to the partner under map `r`. -/
def sigKit (r : Fin 5) : sProp 𝕄 :=
  iprop(dutyTok ER (barCell (par r c)) 0 r ∗ slotAny false (pos false r) c ∗ slotAny true (pos true r) c)

theorem signal_round {Q : α → sProp 𝕄} (r : Fin 5) (n : Dev nD) (hn : n = par r c) (i : ℕ) (hi : due i = .inl r :: due (i + 1)) (k' : ℕ) (hk' : k' = 1)
    {k : PUnit → Prog (TpuEff nD τ sig (Elt F) Λ₀ .tc) α} :
    standing m K c i
      ⊢ iprop(sigKit c r -∗ (standing m K c (i + 1) -∗ WP c (k ⟨⟩) Q) -∗ WP c (.op (.semSignal (n : Thread nD τ) barS k') k) Q) := by
  unfold standing sigKit
  rw [hi]
  iintro ⟨#Hrec, #Hlev, HO⟩ Hkit Hk
  iapply (signal_step m K c r n hn _ k' hk') $$ [HO Hkit]
  · isplitr; · iexact Hrec
    isplitl [HO]; · iexact HO
    iexact Hkit
  iintro HO
  iapply Hk
  isplitr; · iexact Hrec
  isplitr; · iexact Hlev
  iexact HO

theorem bar_round {Q : α → sProp 𝕄} (i : ℕ) (hl : ∀ d ∈ due i, 1 < lvDue d) (k' : ℕ) (hk' : k' = 5)
    {k : PUnit → Prog (TpuEff nD τ sig (Elt F) Λ₀ .tc) α} :
    standing m K c i
      ⊢ iprop(cred (tallyAt (barCell c) () 5) -∗ atPos ER (barCell c) 0 ∅ 0
          -∗ ((standing m K c i ∗ (bigSep Finset.univ (barPay (F := F) c)) ∗ semVal (barCell c) 0) -∗ WP c (k ⟨⟩) Q)
          -∗ WP c (.op (.semWait barS k') k) Q) := by
  unfold standing
  iintro ⟨#Hrec, #Hlev, HO⟩ Hc Hat Hk
  iapply (wait_bar m K c _ hl k' hk') $$ [HO Hc Hat]
  · isplitr; · iexact Hrec
    isplitr; · iexact Hlev
    isplitl [HO]; · iexact HO
    isplitl [Hc]; · iexact Hc
    iexact Hat
  iintro ⟨HO, Hrest⟩
  iapply Hk
  isplitl [HO]
  · isplitr; · iexact Hrec
    isplitr; · iexact Hlev
    iexact HO
  iexact Hrest

theorem start_round {Q : α → sProp 𝕄} (b : Bool) (t : Fin 5) (n : Dev nD) (hn : n = peer b t c) (N : ℕ) (hN : N = t.val) (i : ℕ) (hi : due i = .inr (b, t) :: due (i + 1))
    {hsc : (slotM b t : Memref sig (Dev.tc n : Thread nD τ).2.kind .vmem S128x256 .bf16).view.ref.isScScratch = false}
    {hsrc : (halfM b).view.WordExact} {hdst : (slotM b t).view.WordExact}
    {hsem : DmaTarget.Typed .vmem (.dma (xsem (true, b, t)))
      (.remote (Dev.tc n : Thread nD τ) (slotM b t : Memref sig (Dev.tc n : Thread nD τ).2.kind .vmem S128x256 .bf16) (.dma (xsem (false, b, t))) hsc)}
    {k : PUnit → Prog (TpuEff nD τ sig (Elt F) Λ₀ .tc) α} :
    standing m K c i
      ⊢ iprop((slotAny b t (peer b t c) ∗ kit b t c) -∗ halfAt b c (acc m b N c) -∗ ((flight b t c ∗ standing m K c (i + 1)) -∗ WP c (k ⟨⟩) Q)
          -∗ WP c (.op (.enqueueDma (halfM b) (.remote (Dev.tc n : Thread nD τ) (slotM b t) (.dma (xsem (false, b, t))) hsc)
              (.dma (xsem (true, b, t))) hsrc hdst hsem) k) Q) := by
  subst hN
  unfold kit flight standing
  rw [hi]
  iintro ⟨#Hrec, #Hlev, HO⟩ ⟨Hslot, HtS, HtR, HaS, HaR, HcR⟩ Hhalf Hk
  iapply (start_step m K c b t n hn _) $$ [HO HtS HtR Hslot Hhalf]
  · isplitr; · iexact Hrec
    isplitl [HO]; · iexact HO
    isplitl [HtS]; · iexact HtS
    isplitl [HtR]; · iexact HtR
    isplitl [Hhalf]; · iexact Hhalf
    iexact Hslot
  iintro ⟨HcS, HO⟩
  iapply Hk
  isplitl [HaS HaR HcR HcS]
  · isplitl [HaS]; · iexact HaS
    isplitl [HaR]; · iexact HaR
    isplitl [HcR]; · iexact HcR
    iexact HcS
  isplitr; · iexact Hrec
  isplitr; · iexact Hlev
  iexact HO

/-- Both waits of a round: the own half back, the peer's in the slot. -/
theorem waits_round {Q : α → sProp 𝕄} (b : Bool) (t : Fin 5) (i : ℕ) (hl : ∀ d ∈ due i, 2 + t.val < lvDue d)
    {src src' : Memref sig (c : Thread nD τ).2.kind .vmem S128x256 .bf16}
    {h₁ : src.view.WordExact} {h₂ : (halfM b).view.WordExact} {h₃ : src'.view.WordExact} {h₄ : (slotM b t).view.WordExact}
    {k : PUnit → Prog (TpuEff nD τ sig (Elt F) Λ₀ .tc) α} :
    standing m K c i
      ⊢ iprop(flight b t c -∗ ((standing m K c i ∗ halfAt b c (acc m b t.val c) ∗ slotAt b t c (acc m b t.val (peer b t c))
            ∗ semVal (sendCell b t c) 0 ∗ semVal (recvCell b t c) 0) -∗ WP c (k ⟨⟩) Q)
          -∗ WP c (.op (TpuEff.waitDma2 (p := (c : Thread nD τ).2) (xsem (false, b, t)) src (halfM b) h₁ h₂) fun _ =>
              .op (TpuEff.waitDma2 (p := (c : Thread nD τ).2) (xsem (true, b, t)) src' (slotM b t) h₃ h₄) k) Q) := by
  unfold flight standing
  iintro ⟨#Hrec, #Hlev, HO⟩ ⟨HaS, HaR, HcR, HcS⟩ Hk
  iapply (wait_send m K c b t _) $$ [HO HcS HaS]
  · isplitr; · iexact Hrec
    isplitr; · iexact Hlev
    isplitl [HO]; · iexact HO
    isplitl [HcS]; · iexact HcS
    iexact HaS
  iintro ⟨HO, Hhalf, HzS⟩
  iapply (wait_recv m K c b t _ hl) $$ [HO HcR HaR]
  · isplitr; · iexact Hrec
    isplitr; · iexact Hlev
    isplitl [HO]; · iexact HO
    isplitl [HcR]; · iexact HcR
    iexact HaR
  iintro ⟨HO, Hslot, HzR⟩
  iapply Hk
  isplitl [HO]
  · isplitr; · iexact Hrec
    isplitr; · iexact Hlev
    iexact HO
  isplitl [Hhalf]; · iexact Hhalf
  isplitl [Hslot]; · iexact Hslot
  isplitl [HzS]; · iexact HzS
  iexact HzR

/-- A round but the last, from its waits to the store of the new running sum. -/
theorem exchange_round {Q : α → sProp 𝕄} (b : Bool) (t : Fin 5) (N : ℕ) (hN : N = t.val + 1) (i : ℕ) (hl : ∀ d ∈ due i, 2 + t.val < lvDue d)
    (f : Vec F S128x256 .bf16 → Vec F S1x128x256 .bf16 → FVec F S128x256 .bf16) (hf : f = k0_pay12)
    {src src' : Memref sig (c : Thread nD τ).2.kind .vmem S128x256 .bf16}
    {h₁ : src.view.WordExact} {h₂ : (halfM b).view.WordExact} {h₃ : src'.view.WordExact} {h₄ : (slotM b t).view.WordExact}
    {g₁ g₂ : accM.view.LoadsAt (halfR b).toLoadRect} {g₃ : (landM b).view.LoadsAt (slotR t).toLoadRect} {hx hm}
    {k : PUnit → Prog (TpuEff nD τ sig (Elt F) Λ₀ .tc) α} :
    standing m K c i
      ⊢ iprop(flight b t c -∗ ((standing m K c i ∗ halfAt b c (acc m b N c) ∗ done b t c) -∗ WP c (k ⟨⟩) Q)
          -∗ WP c (.op (TpuEff.waitDma2 (p := (c : Thread nD τ).2) (xsem (false, b, t)) src (halfM b) h₁ h₂) fun _ =>
              .op (TpuEff.waitDma2 (p := (c : Thread nD τ).2) (xsem (true, b, t)) src' (slotM b t) h₃ h₄) fun _ =>
              .op (.load accM (halfR b).toLoadRect g₁) fun v =>
              .op (.load (landM b) (slotR t).toLoadRect g₃) fun w =>
              .op (.load accM (halfR b).toLoadRect g₂) fun _ =>
              .op (.store accM (halfR b) (f v w) Finset.univ hx hm) k) Q) := by
  subst hf hN
  iintro HO H Hk
  iapply (waits_round m K c b t i hl) $$ HO H
  iintro ⟨HO, Hhalf, Hslot, HzS, HzR⟩
  iapply (load_half c b _) $$ Hhalf
  iintro Hhalf
  iapply (load_slot c b t _) $$ Hslot
  iintro Hslot
  iapply (load_half c b _) $$ Hhalf
  iintro Hhalf
  iapply (store_half c b _ _) $$ Hhalf
  iintro Hhalf
  iapply Hk
  unfold done slotAny
  have e : acc m b (t.val + 1) c = k0_pay12 (acc m b t.val c) (asSlot (acc m b t.val (peer b t c))) := by
    have h : (Fin.ofNat 5 t.val : Fin 5) = t := Fin.ext (Nat.mod_eq_of_lt t.isLt)
    show k0_pay12 (acc m b t.val c) (asSlot (acc m b t.val (peer b (Fin.ofNat 5 t.val) c))) = _
    rw [h]
  rw [e]
  isplitl [HO]; · iexact HO
  isplitl [Hhalf]; · iexact Hhalf
  isplitl [Hslot]; · iexists _; iexact Hslot
  isplitl [HzS]; · iexact HzS
  iexact HzR

end Rounds

end Cert.Butterfly

end
-- ==== Proof.Body.lean ====
/-
# The body on one device

What a device's body starts from and ends with, the pipeline's proof data, and the run of the body: the barrier, the
device's own share, five rounds of each half, and the result's two halves.
-/
module

public import proofs.«01_k».proof.Proof.Exchange
public import proofs.«01_k».proof.Proof.Gen.KernelIdeal.Points

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the body starts from and leaves -/

/-- A device's share of the barrier: the right to signal each partner, its place at its own cell, its five units. -/
def barKit (c : Dev nD) : sProp 𝕄 :=
  iprop((bigSep Finset.univ fun r : Fin 5 => dutyTok ER (barCell (par r c)) 0 r)
    ∗ atPos ER (barCell c) 0 ∅ 0 ∗ cred (tallyAt (barCell c) () 5))

/-- What the launch gives the body, at the names `K`. -/
def given (K : Dev nD × Option Xf → ℕ) (c : Dev nD) : sProp 𝕄 :=
  iprop(records m K ∗ levAts L lv ∗ barKit c ∗ bigSep Finset.univ fun x : Bool × Fin 5 => kit x.1 x.2 c)

/-- The three working buffers, at any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def start (c : Dev nD) : sProp 𝕄 := iprop(∃ K, given m K c)
def Φ₀ (c : Dev nD) : sProp 𝕄 := iprop(start m c ∗ scratch c)
/-- After the body: both halves, the slots with the cells that guarded them, and the barrier cell, all at zero. -/
def Φ₁ (c : Dev nD) : sProp 𝕄 :=
  iprop((bigSep Finset.univ fun b => halfAny b c) ∗ (bigSep Finset.univ fun x : Bool × Fin 5 => done x.1 x.2 c) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => rIn m c
    | ⟨2, _⟩ => iIn m c
    | ⟨3, _⟩ => eIn m c
    | ⟨4, _⟩ => sIn m c
    | ⟨5, _⟩ => outAt m c
  Φ t := match t with
    | ⟨0, _⟩ => Φ₀ m c
    | ⟨_ + 1, _⟩ => Φ₁ c
  q _ := fullShare
  owed t := match t with
    | ⟨0, _⟩ => owed c allDues
    | ⟨_ + 1, _⟩ => owed c []

/-! ## The stagings -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

abbrev t₀ : Fin cfg0.N := t0_0

def bodyPre (c : Dev nD) : sProp 𝕄 :=
  iprop(Φ₀ m c ∗ (dats m 0 c).owesAt () t₀.castSucc
    ∗ (∃ d, stg c cc0_stg0_0 ((dats m 0 c).before (0 : Fin 6) t₀ d))
    ∗ (∃ d, stg c cc0_stg1_0 ((dats m 0 c).before (1 : Fin 6) t₀ d))
    ∗ (∃ d, stg c cc0_stg2_0 ((dats m 0 c).before (2 : Fin 6) t₀ d))
    ∗ (∃ d, stg c cc0_stg3_0 ((dats m 0 c).before (3 : Fin 6) t₀ d))
    ∗ (∃ d, stg c cc0_stg4_0 ((dats m 0 c).before (4 : Fin 6) t₀ d))
    ∗ (∃ d, stg c cc0_stg5_0 ((dats m 0 c).before (5 : Fin 6) t₀ d)))

def bodyPost (c : Dev nD) : sProp 𝕄 :=
  iprop(Φ₁ c ∗ (dats m 0 c).owesAt () t₀.succ
    ∗ stg c cc0_stg0_0 (xIn m c) ∗ stg c cc0_stg1_0 (rIn m c) ∗ stg c cc0_stg2_0 (iIn m c)
    ∗ stg c cc0_stg3_0 (eIn m c) ∗ stg c cc0_stg4_0 (sIn m c) ∗ stg c cc0_stg5_0 (outAt m c))

/-- The body on the buffers the launch passes it. -/
abbrev body : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6

theorem body_obligation_of (h : ∀ c : Dev nD, bodyPre m c ⊢ WP c (body (F := F)) fun _ => bodyPost m c) (c : Dev nD) :
    BodyObligation (dats (F := F) m 0 c) (defs₀ (F := F)) 𝒱₀ () Set.univ := fun t => by
  rw [fin_N0 t]
  rw [bigSep_W0, bigSep_W0]
  simp only [owns_whole_stg]
  exact h c

end Cert.Butterfly

end
-- ==== Proof.Deal.lean ====
/-
# Slots dealt out by partner and gathered by round

Before the barrier a device sorts its ten landing slots by the partner that writes them; at the barrier it receives
its partners' slots, sorts them by the round that uses them and puts each with what the launch gave for that round.
-/
module

public import proofs.«01_k».proof.Proof.Body

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Deal
variable (c : Dev nD)

/-- What round `t` of half `b` starts from. -/
def ready (x : Bool × Fin 5) : sProp 𝕄 := iprop(slotAny x.1 x.2 (peer x.1 x.2 c) ∗ kit x.1 x.2 c)

theorem slots_by_partner (b : Bool) :
    (iprop(∃ f, ((c : Thread nD τ).loc (landRef b)) ↦{fullShare} f) : sProp 𝕄) ⊢ bigSep Finset.univ fun r => slotAny b (pos b r) c := by
  refine BIBase.Entails.trans (land_split b c) ?_
  rw [bigSep_univ_equiv (rounds b).symm]
  exact BIBase.Entails.refl

theorem deal :
    (iprop((bigSep Finset.univ fun r : Fin 5 => dutyTok ER (barCell (par r c)) 0 r)
      ∗ (∃ f, ((c : Thread nD τ).loc cc0_scratch1) ↦{fullShare} f) ∗ (∃ f, ((c : Thread nD τ).loc cc0_scratch2) ↦{fullShare} f)) : sProp 𝕄)
      ⊢ iprop(sigKit c 0 ∗ sigKit c 1 ∗ sigKit c 2 ∗ sigKit c 3 ∗ sigKit c 4) := by
  have e : (iprop(sigKit c 0 ∗ sigKit c 1 ∗ sigKit c 2 ∗ sigKit c 3 ∗ sigKit c 4) : sProp 𝕄) = bigSep Finset.univ (sigKit c) :=
    (bigSep_univ_eq_bigSepL [(0 : Fin 5), 1, 2, 3, 4] (by decide) (by decide) (sigKit c)).symm
  rw [e]
  unfold sigKit
  rw [bigSep_sep', bigSep_sep']
  iintro ⟨Ht, HA, HB⟩
  isplitl [Ht]; · iexact Ht
  isplitl [HA]
  · iapply (slots_by_partner c false); iexact HA
  · iapply (slots_by_partner c true); iexact HB

theorem slots_by_round (b : Bool) :
    (bigSep Finset.univ fun r : Fin 5 => slotAny (F := F) b (pos b r) (par r c)) ⊢ bigSep Finset.univ fun t : Fin 5 => slotAny b t (peer b t c) := by
  rw [bigSep_univ_equiv (rounds b)]
  refine bigSep_mono fun t _ => ?_
  show slotAny b (pos b (rnd b t)) (par (rnd b t) c) ⊢ slotAny b t (peer b t c)
  rw [pos_rnd]

/-- Rounds listed in the order the body starts them. -/
def order : List (Bool × Fin 5) := (List.finRange 5).flatMap fun t => [(false, t), (true, t)]

theorem gather :
    (iprop(bigSep Finset.univ (barPay (F := F) c) ∗ bigSep Finset.univ fun x : Bool × Fin 5 => kit x.1 x.2 c) : sProp 𝕄)
      ⊢ iprop(ready c (false, 0) ∗ ready c (true, 0) ∗ ready c (false, 1) ∗ ready c (true, 1) ∗ ready c (false, 2) ∗ ready c (true, 2)
          ∗ ready c (false, 3) ∗ ready c (true, 3) ∗ ready c (false, 4) ∗ ready c (true, 4)) := by
  have e : (iprop(ready c (false, 0) ∗ ready c (true, 0) ∗ ready c (false, 1) ∗ ready c (true, 1) ∗ ready c (false, 2) ∗ ready c (true, 2)
          ∗ ready c (false, 3) ∗ ready c (true, 3) ∗ ready c (false, 4) ∗ ready c (true, 4)) : sProp 𝕄) = bigSep Finset.univ (ready c) :=
    (bigSep_univ_eq_bigSepL order (by decide) (by decide) (ready c)).symm
  rw [e]
  unfold ready barPay
  rw [bigSep_sep', bigSep_sep']
  have hs : (bigSep Finset.univ fun x : Bool × Fin 5 => slotAny (F := F) x.1 x.2 (peer x.1 x.2 c))
      = iprop((bigSep Finset.univ fun t : Fin 5 => slotAny false t (peer false t c)) ∗ bigSep Finset.univ fun t : Fin 5 => slotAny true t (peer true t c)) := by
    rw [bigSep_univ_prod, bigSep_univ_eq_bigSepL [false, true] (by decide) (by decide)]
    rfl
  rw [hs]
  iintro ⟨⟨HA, HB⟩, Hk⟩
  isplitl [HA HB]
  · isplitl [HA]
    · iapply (slots_by_round c false); iexact HA
    · iapply (slots_by_round c true); iexact HB
  iexact Hk

/-- The finished rounds, put together. -/
theorem finished :
    (iprop(done false 0 c ∗ done true 0 c ∗ done false 1 c ∗ done true 1 c ∗ done false 2 c ∗ done true 2 c
          ∗ done false 3 c ∗ done true 3 c ∗ done false 4 c ∗ done true 4 c) : sProp 𝕄)
      ⊢ bigSep Finset.univ fun x : Bool × Fin 5 => done x.1 x.2 c := by
  rw [bigSep_univ_eq_bigSepL order (by decide) (by decide)]
  exact BIBase.Entails.refl

end Deal

end Cert.Butterfly

end
-- ==== Proof.BodyRun.lean ====
/-
# The body, run

The body from its start to its end, one rule per effect in program order.
-/
module

public import proofs.«01_k».proof.Proof.Deal

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Run
variable (c : Dev nD) {α : Type}

theorem off2 : (![0, 0] : Fin 2 → Nat) = fun _ => 0 := funext fun a => by fin_cases a <;> rfl

/-- A load, of what the buffer is known to hold there. -/
theorem load_eq {Q : α → sProp 𝕄} {s : Shape} {e : EltTy} (M : Memref sig .tc .vmem s e) (r : LoadRect s)
    (f : Buf (Elt F) (M.view.loc (c : Thread nD τ))) (X : r.shape.Idx → Elt F e) (hX : M.view.readAt (Elt F) r f = X) {hl : M.view.LoadsAt r}
    {k : (r.shape.Idx → Elt F e) → Prog (TpuEff nD τ sig (Elt F) Λ₀ .tc) α} :
    (M.view.loc (c : Thread nD τ) ↦{fullShare} f)
      ⊢ iprop(((M.view.loc (c : Thread nD τ) ↦{fullShare} f) -∗ WP c (k X) Q) -∗ WP c (.op (.load M r hl) k) Q) := by
  subst hX
  exact wp_load 𝒱₀ (c : Thread nD τ) none Set.univ (m := M) (Finset.subset_univ _)

/-- A store, to what the buffer is known to hold after it. -/
theorem store_eq {Q : α → sProp 𝕄} {s : Shape} {e : EltTy} (M : Memref sig .tc .vmem s e) (r : Rect s)
    (f g : Buf (Elt F) (M.view.loc (c : Thread nD τ))) (X : r.shape.Idx → Elt F e)
    (hg : (M.access r).write (Elt F) f X Finset.univ = g) {hx hm}
    {k : PUnit → Prog (TpuEff nD τ sig (Elt F) Λ₀ .tc) α} :
    (M.view.loc (c : Thread nD τ) ↦{fullShare} f)
      ⊢ iprop(((M.view.loc (c : Thread nD τ) ↦{fullShare} g) -∗ WP c (k ⟨⟩) Q)
          -∗ WP c (.op (.store M r X Finset.univ hx hm) k) Q) := by
  subst hg
  exact wp_store 𝒱₀ (c : Thread nD τ) none Set.univ (m := M) (r := r) (Mk := Finset.univ) (Finset.subset_univ _)

end Run

/-- The running sum's buffer by halves. -/
theorem acc_halves (c : Dev nD) :
    (iprop(∃ f, ((c : Thread nD τ).loc cc0_scratch0) ↦{fullShare} f) : sProp 𝕄)
      ⊢ iprop((∃ X, halfAt false c X) ∗ ∃ X, halfAt true c X) := by
  refine BIBase.Entails.trans (acc_split c) ?_
  rw [bigSep_univ_eq_bigSepL [false, true] (by decide) (by decide)]
  exact BIBase.Entails.refl

section Before
variable (c : Dev nD)

theorem fetched_x (d) : (dats m 0 c).before (0 : Fin 6) t₀ d = xIn m c := by unfold Pipeline.Dat.before; rw [if_pos (fetch0_0 t₀)]; rfl
theorem fetched_r (d) : (dats m 0 c).before (1 : Fin 6) t₀ d = rIn m c := by unfold Pipeline.Dat.before; rw [if_pos (fetch0_1 t₀)]; rfl
theorem fetched_i (d) : (dats m 0 c).before (2 : Fin 6) t₀ d = iIn m c := by unfold Pipeline.Dat.before; rw [if_pos (fetch0_2 t₀)]; rfl
theorem fetched_e (d) : (dats m 0 c).before (3 : Fin 6) t₀ d = eIn m c := by unfold Pipeline.Dat.before; rw [if_pos (fetch0_3 t₀)]; rfl
theorem fetched_s (d) : (dats m 0 c).before (4 : Fin 6) t₀ d = sIn m c := by unfold Pipeline.Dat.before; rw [if_pos (fetch0_4 t₀)]; rfl

end Before

set_option maxHeartbeats 2000000 in
theorem sound_body (c : Dev nD) : bodyPre m c ⊢ WP c (body (F := F)) fun _ => bodyPost m c := by
  unfold body
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel
  simp only [semSignalWord, semWaitWord, Prog.lift, Prog.bind_op, Prog.bind_ret, Prog.pure_eq_ret, wp_deviceId]
  unfold bodyPre Φ₀ start given barKit scratch
  iintro ⟨⟨⟨%K, #Hrec, #Hlev, ⟨Htok, HatB, HcB⟩, Hkits⟩, Hacc, HlA, HlB⟩, Ho, ⟨%d0, %g0, %hg0, Hx⟩, ⟨%d1, %g1, %hg1, Hr⟩, ⟨%d2, %g2, %hg2, Hi⟩,
    ⟨%d3, %g3, %hg3, He⟩, ⟨%d4, %g4, %hg4, Hs⟩, ⟨%d5, %g5, %hg5, Hout⟩⟩
  rw [fetched_x] at hg0
  rw [fetched_r] at hg1
  rw [fetched_i] at hg2
  rw [fetched_e] at hg3
  rw [fetched_s] at hg4
  subst hg0 hg1 hg2 hg3 hg4
  unfold Pipeline.Dat.owesAt Pipeline.owesWithin
  icases Ho with ⟨%W, %hW, HO⟩
  have hdue : (owes (c : Thread nD τ) ((dats m 0 c).owed t₀.castSucc) W : sProp 𝕄) ⊢ dues c (due 0) := by
    unfold dues
    iintro H
    iexists W
    iexact H
  ihave HO : standing m K c 0 $$ [HO]
  · unfold standing
    isplitr; · iexact Hrec
    isplitr; · iexact Hlev
    iapply hdue; iexact HO
  -- the units to the five partners, each with the slots it writes
  ihave Hk := (deal c) $$ [Htok HlA HlB]
  · isplitl [Htok]; · iexact Htok
    isplitl [HlA]; · iexact HlA
    iexact HlB
  icases Hk with ⟨H0, H1, H2, H3, H4⟩
  iapply (signal_round m K c 0 _ (dev1_eq c) 0 rfl _ rfl) $$ HO H0; iintro HO
  iapply (signal_round m K c 1 _ (dev2_eq c) 1 rfl _ rfl) $$ HO H1; iintro HO
  iapply (signal_round m K c 2 _ (dev3_eq c) 2 rfl _ rfl) $$ HO H2; iintro HO
  iapply (signal_round m K c 3 _ (dev4_eq c) 3 rfl _ rfl) $$ HO H3; iintro HO
  iapply (signal_round m K c 4 _ (dev5_eq c) 4 rfl _ rfl) $$ HO H4; iintro HO
  -- the device's own share of the upper half
  iapply (load_eq c (Memref.whole cc0_stg0_0) _ _ (xIn m c) (Memref.readAt_unit_zero (Elt F) cc0_stg0_0 off2 _ _)) $$ Hx; iintro Hx
  iapply (load_eq c (Memref.whole cc0_stg1_0) _ _ (rIn m c) (Memref.readAt_unit_zero (Elt F) cc0_stg1_0 off2 _ _)) $$ Hr; iintro Hr
  iapply (load_eq c (Memref.whole cc0_stg2_0) _ _ (iIn m c) (Memref.readAt_unit_zero (Elt F) cc0_stg2_0 off2 _ _)) $$ Hi; iintro Hi
  iapply (load_eq c (Memref.whole cc0_stg3_0) _ _ (wIn m 0 c) rfl) $$ He; iintro He
  iapply (load_eq c (Memref.whole cc0_stg3_0) _ _ (wIn m 1 c) rfl) $$ He; iintro He
  ihave Hacc := (acc_halves c) $$ Hacc
  icases Hacc with ⟨⟨%A, HA⟩, ⟨%B, HB⟩⟩
  iapply (load_half c false _) $$ HA; iintro HA
  iapply (store_half c false _ (acc m false 0 c)) $$ HA; iintro HA
  -- the barrier, and the first transfer of each half
  iapply (bar_round m K c 5 (by decide) _ rfl) $$ HO HcB HatB; iintro ⟨HO, Hpay, HzB⟩
  ihave Hrd := (gather c) $$ [Hpay Hkits]
  · isplitl [Hpay]; · iexact Hpay
    iexact Hkits
  unfold ready
  icases Hrd with ⟨RA0, RB0, RA1, RB1, RA2, RB2, RA3, RB3, RA4, RB4⟩
  iapply (start_round m K c false 0 _ (dev6_eq c) 0 rfl 5 rfl) $$ HO RA0 HA; iintro ⟨FA, HO⟩
  iapply (load_eq c (Memref.whole cc0_stg3_0) _ _ (wIn m 0 c) rfl) $$ He; iintro He
  iapply (load_eq c (Memref.whole cc0_stg3_0) _ _ (wIn m 1 c) rfl) $$ He; iintro He
  iapply (load_half c true _) $$ HB; iintro HB
  iapply (store_half c true _ (acc m true 0 c)) $$ HB; iintro HB
  iapply (start_round m K c true 0 _ (dev7_eq c) 0 rfl 6 rfl) $$ HO RB0 HB; iintro ⟨FB, HO⟩
  -- the shared expert
  iapply (load_eq c (Memref.whole cc0_stg4_0) _ _ (sIn m c) (Memref.readAt_unit_zero (Elt F) cc0_stg4_0 off2 _ _)) $$ Hs; iintro Hs
  iapply (load_eq c (Memref.whole cc0_stg5_0) _ _ g5 (Memref.readAt_unit_zero (Elt F) cc0_stg5_0 off2 _ _)) $$ Hout; iintro Hout
  iapply (store_eq c (Memref.whole cc0_stg5_0) _ _ (shared m c) _ (Memref.write_access_unit_zero_univ (Elt F) cc0_stg5_0 off2 _ _ _)) $$ Hout; iintro Hout
  -- four rounds of exchange
  iapply (exchange_round m K c false 0 1 rfl 7 (by decide) k0_pay12 rfl) $$ HO FA; iintro ⟨HO, HA, DA0⟩
  iapply (exchange_round m K c true 0 1 rfl 7 (by decide) k0_pay13 rfl) $$ HO FB; iintro ⟨HO, HB, DB0⟩
  iapply (start_round m K c false 1 _ (dev8_eq c) 1 rfl 7 rfl) $$ HO RA1 HA; iintro ⟨FA, HO⟩
  iapply (start_round m K c true 1 _ (dev9_eq c) 1 rfl 8 rfl) $$ HO RB1 HB; iintro ⟨FB, HO⟩
  iapply (exchange_round m K c false 1 2 rfl 9 (by decide) k0_pay14 rfl) $$ HO FA; iintro ⟨HO, HA, DA1⟩
  iapply (exchange_round m K c true 1 2 rfl 9 (by decide) k0_pay15 rfl) $$ HO FB; iintro ⟨HO, HB, DB1⟩
  iapply (start_round m K c false 2 _ (dev10_eq c) 2 rfl 9 rfl) $$ HO RA2 HA; iintro ⟨FA, HO⟩
  iapply (start_round m K c true 2 _ (dev11_eq c) 2 rfl 10 rfl) $$ HO RB2 HB; iintro ⟨FB, HO⟩
  iapply (exchange_round m K c false 2 3 rfl 11 (by decide) k0_pay16 rfl) $$ HO FA; iintro ⟨HO, HA, DA2⟩
  iapply (exchange_round m K c true 2 3 rfl 11 (by decide) k0_pay17 rfl) $$ HO FB; iintro ⟨HO, HB, DB2⟩
  iapply (start_round m K c false 3 _ (dev12_eq c) 3 rfl 11 rfl) $$ HO RA3 HA; iintro ⟨FA, HO⟩
  iapply (start_round m K c true 3 _ (dev13_eq c) 3 rfl 12 rfl) $$ HO RB3 HB; iintro ⟨FB, HO⟩
  iapply (exchange_round m K c false 3 4 rfl 13 (by decide) k0_pay18 rfl) $$ HO FA; iintro ⟨HO, HA, DA3⟩
  iapply (exchange_round m K c true 3 4 rfl 13 (by decide) k0_pay19 rfl) $$ HO FB; iintro ⟨HO, HB, DB3⟩
  iapply (start_round m K c false 4 _ (dev14_eq c) 4 rfl 13 rfl) $$ HO RA4 HA; iintro ⟨FA, HO⟩
  iapply (start_round m K c true 4 _ (dev15_eq c) 4 rfl 14 rfl) $$ HO RB4 HB; iintro ⟨FB, HO⟩
  -- the last round's additions go to the result
  iapply (waits_round m K c false 4 15 (by decide)) $$ HO FA; iintro ⟨HO, HA, SA, ZA⟩
  iapply (load_eq c (Memref.whole cc0_stg5_0) _ _ ((outM.access (halfR false)).read (Elt F) (shared m c)) rfl) $$ Hout; iintro Hout
  iapply (load_half c false _) $$ HA; iintro HA
  iapply (load_slot c false 4 _) $$ SA; iintro SA
  iapply (load_eq c (Memref.whole cc0_stg5_0) _ _ ((outM.access (halfR false)).read (Elt F) (shared m c)) rfl) $$ Hout; iintro Hout
  iapply (store_eq c (Memref.whole cc0_stg5_0) _ _ (out0 m c) _ rfl) $$ Hout; iintro Hout
  iapply (waits_round m K c true 4 15 (by decide)) $$ HO FB; iintro ⟨HO, HB, SB, ZB⟩
  iapply (load_eq c (Memref.whole cc0_stg5_0) _ _ ((outM.access (halfR true)).read (Elt F) (out0 m c)) rfl) $$ Hout; iintro Hout
  iapply (load_half c true _) $$ HB; iintro HB
  iapply (load_slot c true 4 _) $$ SB; iintro SB
  iapply (load_eq c (Memref.whole cc0_stg5_0) _ _ ((outM.access (halfR true)).read (Elt F) (out0 m c)) rfl) $$ Hout; iintro Hout
  iapply (store_eq c (Memref.whole cc0_stg5_0) _ _ (outAt m c) _ rfl) $$ Hout; iintro Hout
  unfold WP
  rw [wp_ret]
  imodintro
  unfold bodyPost Φ₁ Pipeline.Dat.owesAt Pipeline.owesWithin
  isplitl [HA HB DA0 DB0 DA1 DB1 DA2 DB2 DA3 DB3 SA SB ZA ZB HzB]
  · isplitl [HA HB]
    · have e : (bigSep Finset.univ fun b => halfAny b c : sProp 𝕄) = iprop(halfAny false c ∗ halfAny true c) :=
        bigSep_univ_eq_bigSepL [false, true] (by decide) (by decide) _
      rw [e]
      unfold halfAny
      isplitl [HA]
      · iexists _; iexact HA
      · iexists _; iexact HB
    isplitr [HzB]
    · iapply (finished c)
      isplitl [DA0]; · iexact DA0
      isplitl [DB0]; · iexact DB0
      isplitl [DA1]; · iexact DA1
      isplitl [DB1]; · iexact DB1
      isplitl [DA2]; · iexact DA2
      isplitl [DB2]; · iexact DB2
      isplitl [DA3]; · iexact DA3
      isplitl [DB3]; · iexact DB3
      unfold done slotAny
      isplitl [SA ZA]
      · isplitl [SA]
        · iexists _; iexact SA
        · iexact ZA
      · isplitl [SB]
        · iexists _; iexact SB
        · iexact ZB
    iexact HzB
  isplitl [HO]
  · unfold standing dues
    icases HO with ⟨-, -, ⟨%W', HO⟩⟩
    iexists W'
    isplitr; · ipureintro; exact fun _ _ => Or.inl trivial
    iexact HO
  isplitl [Hx]; · iexists _; isplitr; · (ipureintro; rfl)
                  iexact Hx
  isplitl [Hr]; · iexists _; isplitr; · (ipureintro; rfl)
                  iexact Hr
  isplitl [Hi]; · iexists _; isplitr; · (ipureintro; rfl)
                  iexact Hi
  isplitl [He]; · iexists _; isplitr; · (ipureintro; rfl)
                  iexact He
  isplitl [Hs]; · iexists _; isplitr; · (ipureintro; rfl)
                  iexact Hs
  iexists _
  isplitr
  · ipureintro; rfl
  iexact Hout

theorem body_obligation (c : Dev nD) : Pipeline.BodyObligation (dats (F := F) m 0 c) (defs₀ (F := F)) 𝒱₀ () Set.univ :=
  body_obligation_of m (sound_body m) c

end Cert.Butterfly

end
-- ==== Proof.Credit.lean ====
/-
# The launch's credit

What the devices together owe each cell at the launch: five units to a barrier, one transfer's credit to a receive
cell.
-/
module

public import proofs.«01_k».proof.Proof.BodyRun
public import Idealize.ShloMosaic.Lib.Quiescent

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kind of cell a payment goes to, and the device that receives it. -/
def dueKind : Due → Option Xf
  | .inl _ => none
  | .inr (b, t) => some (true, b, t)
def dueDev (c : Dev nD) : Due → Dev nD
  | .inl r => par r c
  | .inr (b, t) => peer b t c

theorem dueDev_dueDev (c : Dev nD) (d : Due) : dueDev (dueDev c d) d = c := by
  rcases d with r | ⟨b, t⟩ <;> exact par_par _ c

theorem dueCell_eq (c : Dev nD) (d : Due) : dueCell c d = cell (dueKind d) (dueDev c d) := by
  rcases d with r | ⟨b, t⟩ <;> rfl

/-- All the devices' payments `d` to one cell: one, if the kind is right. -/
theorem sum_due (k : Option Xf) (c : Dev nD) (d : Due) :
    (∑ e : Dev nD, if cell k c = dueCell e d then dueAmt d else 0) = if k = dueKind d then dueAmt d else 0 := by
  by_cases h : k = dueKind d
  · rw [if_pos h, Finset.sum_eq_single (dueDev c d)]
    · rw [dueCell_eq, dueDev_dueDev, h, if_pos rfl]
    · intro e _ he
      rw [if_neg]
      intro hc
      rw [dueCell_eq] at hc
      have h1 : c = dueDev e d := congrArg (fun g : GSem nD τ sig => g.1.1) hc
      exact he (by rw [h1, dueDev_dueDev])
    · intro hn; exact absurd (Finset.mem_univ _) hn
  · rw [if_neg h]
    refine Finset.sum_eq_zero fun e _ => ?_
    rw [if_neg]
    intro hc
    rw [dueCell_eq] at hc
    exact h (csem_inj (congrArg Prod.snd hc))

/-- What a list of payments, made by every device, comes to at a cell. -/
theorem sum_owed (k : Option Xf) (c : Dev nD) (l : List Due) :
    (∑ e : Dev nD, owed e l (cell k c) ()) = (l.map fun d => if k = dueKind d then dueAmt d else 0).sum := by
  induction l with
  | nil => exact Finset.sum_eq_zero fun _ _ => rfl
  | cons d l ih =>
    rw [List.map_cons, List.sum_cons, ← ih, ← sum_due k c d, ← Finset.sum_add_distrib]
    refine Finset.sum_congr rfl fun e _ => ?_
    show (owed e l + tallyAt (dueCell e d) () (dueAmt d)) (cell k c) () = _
    rw [Pi.add_apply, Finsupp.add_apply, tallyAt_apply, Nat.add_comm]
    refine congrArg (· + owed e l (cell k c) ()) ?_
    by_cases h : cell k c = dueCell e d
    · rw [if_pos ⟨h, rfl⟩, if_pos h]
    · rw [if_neg fun h' => h h'.1, if_neg h]

theorem total_bar : (allDues.map fun d => if (none : Option Xf) = dueKind d then dueAmt d else 0).sum = 5 := by
  rfl

theorem total_recv (b : Bool) (t : Fin 5) :
    (allDues.map fun d => if (some (true, b, t) : Option Xf) = dueKind d then dueAmt d else 0).sum = credit := by
  have h : ∀ N : ℕ, (allDues.map fun d => if (some (true, b, t) : Option Xf) = dueKind d then (match d with | .inl _ => 1 | .inr _ => N) else 0).sum = N := by
    intro N
    revert b t
    simp only [allDues, xfersFrom, List.finRange, dueKind]
    intro b t
    cases b <;> fin_cases t <;> simp [dueKind]
  refine Eq.trans ?_ (h credit)
  congr 2

theorem launch_at (k : Option Xf) (c : Dev nD) (n : ℕ) (h : (allDues.map fun d => if k = dueKind d then dueAmt d else 0).sum = n) :
    tallyOn (cell k c) (launchCredit (Pipeline.owing fun e => owed e allDues) 0 (cell k c)) = (tallyAt (cell k c) () n : CellTallies nD τ sig Unit) := by
  unfold tallyAt
  refine congrArg _ (Finsupp.ext fun u => ?_)
  cases u
  rw [Pipeline.launchCredit_owing, Finsupp.single_eq_same, ← h, ← sum_owed k c]

/-- The cells that are owed something at the launch: the barrier and the receive cells. -/
def paidSem : Option (Bool × Fin 5) → SemLoc sig := fun o => csem (o.map fun x => (true, x.1, x.2))

theorem paidSem_inj : Function.Injective paidSem := by
  refine csem_inj.comp (Option.map_injective ?_)
  rintro ⟨b, t⟩ ⟨b', t'⟩ h
  cases h
  rfl

/-- A conjunction over an optional index. -/
theorem bigSep_opt {I : Type} [Fintype I] [DecidableEq I] (Φ : Option I → sProp 𝕄) :
    bigSep Finset.univ Φ = iprop((bigSep Finset.univ fun i => Φ (some i)) ∗ Φ none) := by
  rw [bigSep_univ_equiv (Equiv.optionEquivSumPUnit.{0} I).symm, bigSep_univ_sum]
  refine congrArg (fun X => iprop((bigSep Finset.univ fun i => Φ (some i)) ∗ X)) ?_
  rw [bigSep_univ_eq_bigSepL [PUnit.unit] (by decide) (by decide)]
  rfl

theorem creds (c : Dev nD) :
    (Pipeline.launchCred (fun e => owed e allDues) c : sProp 𝕄)
      ⊢ iprop((bigSep Finset.univ fun x : Bool × Fin 5 => cred (tallyAt (recvCell x.1 x.2 c) () credit)) ∗ cred (tallyAt (barCell c) () 5)) := by
  unfold Pipeline.launchCred
  refine BIBase.Entails.trans (bigSep_subset (t := Finset.univ.map ⟨paidSem, paidSem_inj⟩) (Finset.subset_univ _)) ?_
  rw [bigSep_map, bigSep_opt]
  refine BI.sep_mono ?_ ?_
  · refine bigSep_mono fun x _ => ?_
    exact Entails.of_eq (congrArg cred (launch_at (some (true, x.1, x.2)) c credit (total_recv x.1 x.2)))
  · exact Entails.of_eq (congrArg cred (launch_at none c 5 total_bar))

end Cert.Butterfly

end
-- ==== Proof.Launch.lean ====
/-
# The launch

From the semaphores and the launch's ghost state to what each device's body starts from: every cell's record opened,
the payment tokens handed to the devices that pay, the launch's credit to the cells it is owed to. Then the run of the
whole program.
-/
module

public import proofs.«01_k».proof.Proof.Credit
public import Idealize.ShloMosaic.Lib.Pipeline.CollectiveSegs

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

/-! ## Cells and tokens -/

/-- The duties a device's own cells start with: five of its barrier, one of each other cell. -/
abbrev Duty : Type := Fin 5 ⊕ Xf

abbrev tokOf (x : Dev nD × Duty) : GSem nD τ sig × ℕ × Fin 5 := match x.2 with
  | .inl r => (barCell x.1, 0, r)
  | .inr y => (cell (some y) x.1, 0, 0)

theorem tokOf_inj : Function.Injective (tokOf : Dev nD × Duty → GSem nD τ sig × ℕ × Fin 5) := by
  rintro ⟨c, d⟩ ⟨c', d'⟩ h
  have h1 : c = c' := by
    have := congrArg (fun x : GSem nD τ sig × ℕ × Fin 5 => x.1.1.1) h
    rcases d with r | y <;> rcases d' with r' | y' <;> exact this
  subst h1
  have hd : d = d' := by
    have hs : (tokOf (c, d)).1.2 = (tokOf (c, d')).1.2 := congrArg (fun x : GSem nD τ sig × ℕ × Fin 5 => x.1.2) h
    rcases d with r | y <;> rcases d' with r' | y'
    · exact congrArg Sum.inl (congrArg (fun x : GSem nD τ sig × ℕ × Fin 5 => x.2.2) h)
    · exact absurd (csem_inj (a₁ := none) (a₂ := some y') hs) (by simp)
    · exact absurd (csem_inj (a₁ := some y) (a₂ := none) hs) (by simp)
    · exact congrArg Sum.inr (Option.some.inj (csem_inj (a₁ := some y) (a₂ := some y') hs))
  rw [hd]

def ringCells : Finset (GSem nD τ sig) := Finset.univ.map ⟨kcell, kcell_inj⟩
def ringToks : Finset (GSem nD τ sig × ℕ × Fin 5) := Finset.univ.map ⟨tokOf, tokOf_inj⟩

def u₀ : UU := (initOf (Pipeline.cells cfgs cellOf_inj) (Pipeline.launchToks cfgs cellOf_inj), initOf ringCells ringToks)

/-- A conjunction over transfers: send cells, then receive cells. -/
theorem bigSep_xf (Φ : Xf → sProp 𝕄) :
    bigSep Finset.univ Φ = iprop((bigSep Finset.univ fun x : Bool × Fin 5 => Φ (false, x)) ∗ bigSep Finset.univ fun x : Bool × Fin 5 => Φ (true, x)) := by
  rw [bigSep_univ_prod]
  exact bigSep_univ_eq_bigSepL [false, true] (by decide) (by decide) _

/-- The tokens of a device's own cells. -/
def toks (c : Dev nD) : sProp 𝕄 :=
  iprop((bigSep Finset.univ fun r : Fin 5 => dutyTok ER (barCell c) 0 r)
    ∗ (bigSep Finset.univ fun x : Bool × Fin 5 => dutyTok ER (sendCell x.1 x.2 c) 0 0)
    ∗ (bigSep Finset.univ fun x : Bool × Fin 5 => dutyTok ER (recvCell x.1 x.2 c) 0 0))
/-- The tokens a device pays with. -/
def payToks (c : Dev nD) : sProp 𝕄 :=
  iprop((bigSep Finset.univ fun r : Fin 5 => dutyTok ER (barCell (par r c)) 0 r)
    ∗ (bigSep Finset.univ fun x : Bool × Fin 5 => dutyTok ER (sendCell x.1 x.2 c) 0 0)
    ∗ (bigSep Finset.univ fun x : Bool × Fin 5 => dutyTok ER (recvCell x.1 x.2 (peer x.1 x.2 c)) 0 0))

/-- Resources indexed by device and by a kind, moved within each kind by that kind's own exchange of devices. -/
theorem around {I : Type} [Fintype I] [DecidableEq I] (σ : I → Dev nD → Dev nD) (hσ : ∀ i c, σ i (σ i c) = c) (Φ : Dev nD → I → sProp 𝕄) :
    (bigSep Finset.univ fun c : Dev nD => bigSep Finset.univ fun i : I => Φ c i)
      = bigSep Finset.univ fun c : Dev nD => bigSep Finset.univ fun i : I => Φ (σ i c) i := by
  have e : (Dev nD × I) ≃ (Dev nD × I) :=
    ⟨fun x => (σ x.2 x.1, x.2), fun x => (σ x.2 x.1, x.2), fun x => by simp [hσ], fun x => by simp [hσ]⟩
  rw [← bigSep_univ_prod (fun x : Dev nD × I => Φ x.1 x.2), ← bigSep_univ_prod (fun x : Dev nD × I => Φ (σ x.2 x.1) x.2)]
  exact bigSep_univ_equiv (⟨fun x => (σ x.2 x.1, x.2), fun x => (σ x.2 x.1, x.2), fun x => by simp [hσ], fun x => by simp [hσ]⟩ : (Dev nD × I) ≃ (Dev nD × I)) _

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around (fun r : Fin 5 => par r) par_par (fun c r => (dutyTok ER (barCell c) 0 r : sProp 𝕄)),
    around (fun x : Bool × Fin 5 => peer x.1 x.2) (fun x => peer_peer x.1 x.2) (fun c x => (dutyTok ER (recvCell x.1 x.2 c) 0 0 : sProp 𝕄))]

/-! ## The ghost state -/

/-- What the launch's ghost state gives a device. -/
def G (c : Dev nD) : sProp 𝕄 :=
  iprop((bigSep Finset.univ fun k : Option Xf => roundState ER (Rd m) (kcell (c, k)) 0)
    ∗ (bigSep Finset.univ fun k : Option Xf => iprop(atPos ER (kcell (c, k)) 0 ∅ 0 ∗ reached ER (kcell (c, k)) 0)) ∗ toks c)

/-- What stays with a device once every cell's record is open. -/
def linear (c : Dev nD) : sProp 𝕄 := iprop((bigSep Finset.univ fun k : Option Xf => atPos ER (kcell (c, k)) 0 ∅ 0) ∗ payToks c)
def G' (c : Dev nD) : sProp 𝕄 := iprop(∃ K, records m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option Xf => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_xf]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- All a device's semaphores, cell by cell. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Option Xf => semVal (kcell (c, k)) 0 : sProp 𝕄) := by
  rw [unscopedSems0_eq, bigSep_opt]
  rfl

/-- Opens the record of every cell of one device. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  have ho : iprop((bigSep Finset.univ fun k : Option Xf => semVal (kcell (c, k)) 0) ∗ bigSep Finset.univ fun k : Option Xf => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  ihave Hv := (Entails.of_eq (sems0_eq (F := F) c)) $$ [Hos Hus]
  · isplitl [Hos]; · iexact Hos
    iexact Hus
  imod ho $$ [Hv Hst] with Hinv
  · isplitl [Hv]; · iexact Hv
    iexact Hst
  imodintro
  isplitl [Hinv]; · iexact Hinv
  isplitl [Hat]; · iexact Hat
  iexact Htok

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option Xf => iprop(∃ κ : ℕ, cellInv ER (Rd m) κ (kcell ck))),
    bigSep_congr (s := Finset.univ) (fun (c : Dev nD) _ => bigSep_sep' Finset.univ (fun k : Option Xf => (atPos ER (kcell (c, k)) 0 ∅ 0 : sProp 𝕄)) (fun k => reached ER (kcell (c, k)) 0)),
    bigSep_sep', ← bigSep_univ_prod (fun ck : Dev nD × Option Xf => (reached ER (kcell ck) 0 : sProp 𝕄))]
  iintro ⟨HI, ⟨Hat, #HR⟩, Htok⟩
  ihave HK := (BI.bigSep_exists_pi Finset.univ (fun (ck : Dev nD × Option Xf) (κ : ℕ) => (cellInv ER (Rd m) κ (kcell ck) : sProp 𝕄))) $$ HI
  icases HK with ⟨%K, #HI⟩
  ihave Htk := (toks_around (F := F)) $$ Htok
  have hg (c : Dev nD) : iprop(records m K ∗ linear c) ⊢ G' m c := by
    unfold G'
    iintro H
    iexists K
    iexact H
  have hl : iprop((bigSep Finset.univ fun c : Dev nD => bigSep Finset.univ fun k : Option Xf => atPos ER (kcell (c, k)) 0 ∅ 0) ∗ bigSep Finset.univ fun c : Dev nD => payToks c)
      ⊢ (bigSep Finset.univ fun c : Dev nD => linear c : sProp 𝕄) := by
    unfold linear
    rw [bigSep_sep']
  iapply (with_records (R := records m K) hg)
  isplitr
  · unfold records; isplitl; · iexact HI
    iexact HR
  · iapply hl
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-! ## What the body starts from, and what it leaves -/

/-- A device's places, tokens and credits, sorted by barrier and rounds. -/
theorem sort_kits (c : Dev nD) :
    iprop(linear c ∗ (bigSep Finset.univ fun x : Bool × Fin 5 => cred (tallyAt (recvCell x.1 x.2 c) () credit)) ∗ cred (tallyAt (barCell c) () 5))
      ⊢ (iprop(barKit c ∗ bigSep Finset.univ fun x : Bool × Fin 5 => kit x.1 x.2 c) : sProp 𝕄) := by
  unfold linear payToks barKit kit
  rw [bigSep_opt, bigSep_xf, bigSep_sep', bigSep_sep', bigSep_sep', bigSep_sep']
  iintro ⟨⟨⟨⟨HaS, HaR⟩, HaB⟩, HtB, HtS, HtR⟩, HcR, HcB⟩
  isplitl [HtB HaB HcB]
  · isplitl [HtB]; · iexact HtB
    isplitl [HaB]; · iexact HaB
    iexact HcB
  isplitl [HtS]; · iexact HtS
  isplitl [HtR]; · iexact HtR
  isplitl [HaS]; · iexact HaS
  isplitl [HaR]; · iexact HaR
  iexact HcR

theorem start_intro (c : Dev nD) :
    iprop(Pipeline.unscopedRestP (Val := Elt F) (Ix := Unit) (Name := ℕ) (U := UU) (Lvl := ℕ) Pipeline.Prefetch.none cfg0.spec c (fun b => m ((c : Thread nD τ).loc b)) ∗ levAts L lv ∗ Pipeline.launchCred (fun e => owed e allDues) c
        ∗ prngReg c (ρ c) ∗ G' m c)
      ⊢ |={Set.univ}=> iprop(start m c ∗ emp) := by
  iintro ⟨Hr, Hlev, Hcr, Hprng, HG⟩
  iclear Hr Hprng
  ihave Hc := (creds (F := F) c) $$ Hcr
  unfold G'
  icases HG with ⟨%K, #Hrec, Hlin⟩
  icases Hc with ⟨HcR, HcB⟩
  ihave Hk := (sort_kits (F := F) c) $$ [Hlin HcR HcB]
  · isplitl [Hlin]; · iexact Hlin
    isplitl [HcR]; · iexact HcR
    iexact HcB
  icases Hk with ⟨Hb, Hk⟩
  imodintro
  unfold start given
  isplitl
  · iexists K
    isplitr; · iexact Hrec
    isplitl [Hlev]; · iexact Hlev
    isplitl [Hb]; · iexact Hb
    iexact Hk
  · iempintro

theorem phi0_intro (c : Dev nD) :
    iprop(start m c ∗ Pipeline.prefHeld (Val := Elt F) (Ix := Unit) (Name := ℕ) (U := UU) (Lvl := ℕ) (τ := τ) Pipeline.Prefetch.none c (fun _ => fullShare.right) (fun k => k.elim0) ∗ Pipeline.scopedRest cfg0.spec c) ⊢ (dats m 0 c).Φ 0 := by
  show _ ⊢ Φ₀ m c
  unfold Φ₀ scratch
  rw [scopedRest0_eq]
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 (Ix := Unit) (Name := ℕ) (U := UU) (Lvl := ℕ) (Val := Elt F) (τ := τ) osem c ∗ Pipeline.scopedRest cfg0.spec c) := by
  show Φ₁ c ⊢ _
  have eo : Pipeline.ownSems0 (Ix := Unit) (Name := ℕ) (U := UU) (Lvl := ℕ) (Val := Elt F) (τ := τ) osem c
      = iprop((bigSep Finset.univ fun x : Bool × Fin 5 => semVal (sendCell x.1 x.2 c) 0) ∗ bigSep Finset.univ fun x : Bool × Fin 5 => semVal (recvCell x.1 x.2 c) 0) := by
    unfold Pipeline.ownSems0
    rw [bigSep_xf]
  have es : (bigSep Finset.univ fun x : Bool × Fin 5 => slotAny (F := F) x.1 x.2 c)
      = iprop((bigSep Finset.univ fun t : Fin 5 => slotAny false t c) ∗ bigSep Finset.univ fun t : Fin 5 => slotAny true t c) := by
    rw [bigSep_univ_prod]
    exact bigSep_univ_eq_bigSepL [false, true] (by decide) (by decide) _
  unfold Φ₁ done
  rw [unscopedSems0_eq, eo, scopedRest0_eq, bigSep_sep', bigSep_sep', es]
  iintro ⟨Hacc, ⟨⟨HA, HB⟩, HS, HR⟩, Hbar⟩
  isplitl [Hbar]; · iexact Hbar
  isplitl [HS HR]
  · isplitl [HS]; · iexact HS
    iexact HR
  isplitl [Hacc]; · iapply (acc_join c); iexact Hacc
  isplitl [HA]; · iapply (land_join false c); iexact HA
  iapply (land_join true c); iexact HB

theorem waits (c : Dev nD) : (levAts L lv : sProp 𝕄) ⊢ Pipeline.cellsWaits cfgs (dats m) () 0 c :=
  Pipeline.cellsWaits_intro cfgs (dats m) () 0 c fun w s t => by
    have hk : lvKind (kind (.dma ((cfg0.win w).sem s))) = 0 := by fin_cases w <;> fin_cases s <;> decide
    have h0 (d : Due) : lvKind (kind (.dma ((cfg0.win w).sem s))) < lvDue d := by rw [hk]; exact lvDue_pos d
    rcases t with ⟨_ | _, ht⟩
    · exact mayWait c _ allDues fun d _ => h0 d
    · exact mayWait c _ [] fun d _ => h0 d

/-! ## The run -/

/-- An array after the run. -/
def finalA (c : Dev nD) (w : Fin cfg0.W) : Buf (Elt F) ((cfg0.win w).arr.view.loc (c : Thread nD τ)) := (dats m 0 c).arrAt w cfg0.N

def QC (r : PUnit × MemSt nD τ sig (Elt F)) : Prop := ∀ (c : Dev nD) (w : Fin cfg0.W), r.2.mem ((cfg0.win w).arr.view.loc (c : Thread nD τ)) = finalA m c w

set_option maxRecDepth 8000 in
theorem run_main : θ_run defs (onTc (τ := τ) (main (F := F))) (⟨m, fun _ => 0, ρ⟩ : MemSt nD τ sig (Elt F)) (fun r => QC m r ∧ r.2.sem = fun _ => 0) :=
  Pipeline.θ_run_region_owing_glob_pf (fun p => (cfgs p).toPCfg) (fun p => (cfgs p).toPCfg_adm) (dats m) () cellOf_inj (0 : Fin 1) winFacts0.to₀ ownSemFacts
    (Pipeline.PreFacts.none _) EP defs₀ 𝒱₀ m ρ main (hmain := fun _ => rfl) (hbody := body_obligation m)
    (hne := fun w => by fin_cases w <;> exact Nat.succ_pos _) (harr := arr_whole0) (hstage := stage_whole0) (hshare := share_eq m)
    (hdistinct := winFacts0.arr_inj) (O₀ := fun c => owed c allDues) (howed₀ := fun _ => rfl) (howedN := fun _ => rfl) (L := L) (lv := lv)
    (hL := L_of_ne) (hwaits := waits m) (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP]
      · iexact HP
      · iexact HG)
    (hglob := glob m) (hA := fun _ _ => rfl) (hpf := fun _ k => k.elim0) (X := start m) (Y := fun c => unscopedSems0 c)
    (Z := fun _ => iprop(emp)) (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]
      · iexact Hu
      · iexact HSI)
    (hQ := fun _ h hs => ⟨fun c w => (h c).1 w, sem_eq_zero hs fun c => (h c).2.2⟩)

end Cert.Butterfly

end
-- ==== Proof.Same.lean ====
/-
# The two printed programs

The kernel as printed and its idealization have the same text: their body tables are equal, so a run of the one is a
run of the other.
-/
module

public import proofs.«01_k».proof.Proof.Gen.Kernel
public import proofs.«01_k».proof.Proof.Gen.KernelIdeal

@[expose] public section

noncomputable section

namespace Cert.Butterfly

open Idealize.ShloMosaic Idealize.ShloMosaic.TcCoe

variable {F : FTy → Type} [FloatOps F]

theorem body_same : @Cert.Kernel.cc0_body F _ Cert.Kernel.Gen.facts = @Cert.KernelIdeal.cc0_body F _ Cert.KernelIdeal.Gen.facts := rfl

theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_same : Cert.Kernel.defs (F := F) = Cert.KernelIdeal.defs (F := F) :=
  congrArg (Pipeline.defs (Cert.KernelIdeal.pcfgs (F := F))) (bodies_same (F := F))

end Cert.Butterfly

end
-- ==== Proof.Frames.lean ====
/-
# The frames

The run of the program, read at its argument arrays: once at the bit patterns, once at the ideal values; and the
reference's own run.
-/
module

public import proofs.«01_k».proof.Defs
public import proofs.«01_k».proof.Proof.Launch
public import proofs.«01_k».proof.Proof.Same
public import proofs.«01_k».proof.Proof.Gen.ReferenceIdeal.Run

@[expose] public section

noncomputable section

namespace Cert.Butterfly

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- An argument array after the run holds what it held. -/
theorem finalA_in (c : Dev nD) (w : Fin cfg0.W) (h : (cfg0.win w).isOut = false) :
    finalA m c w = m ((cfg0.win w).arr.view.loc (c : Thread nD τ)) :=
  (dats (F := F) m 0 c).arrAt_in w h _

/-- The run, said of the five arguments and the counters. -/
theorem run_frame :
    θ_run defs (onTc (τ := τ) (main (F := F))) (⟨m, fun _ => 0, ρ⟩ : MemSt nD τ sig (Elt F)) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
      ⟨(h.1 c 0).trans (finalA_in m c 0 rfl), (h.1 c 1).trans (finalA_in m c 1 rfl), (h.1 c 2).trans (finalA_in m c 2 rfl),
        (h.1 c 3).trans (finalA_in m c 3 rfl), (h.1 c 4).trans (finalA_in m c 4 rfl)⟩, h.2⟩)
    (run_main m ρ)

theorem frame_kernel_ideal : Cert.quiescent_KernelIdeal := fun m ρ _ => run_frame (F := Ideal) m ρ

theorem frame_kernel : Cert.quiescent_Kernel := fun m ρ _ => by
  rw [defs_same]
  exact run_frame (F := Bits) m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Butterfly

end
-- ==== Proof.Plain.lean ====
/-
# The layer, in plain sums

What the layer computes for one token and one output column, over the extended reals: the router's probability of an
expert, an expert's product, and the sum over the sixty-four experts in which only the expert the token is routed to
counts.
-/
module

public import proofs.«01_k».proof.Proof.Mesh
public import Idealize.ShloMosaic.Lib.Pointwise

@[expose] public section

noncomputable section

namespace Cert.Butterfly

open Cert.KernelIdeal Cert.KernelIdeal.Gen
open Idealize.ShloMosaic

variable (x : FVec Ideal S256x128 .f32) (r : FVec Ideal S128x64 .f32) (i : IVec S256x1 32)
variable (E : FVec Ideal ⟨3, ![64, 128, 256]⟩ .f32) (s : FVec Ideal S128x256 .f32)

/-- The router's score of expert `e` for token `n`, -/
def score (n : Fin 256) (e : Fin 64) : EReal := ∑ k : Fin 128, x (ix2 n k) * r (ix2 k e)

/-- the exponential of the score less the token's greatest score, -/
def weight (n : Fin 256) (e : Fin 64) : EReal :=
  Ideal.exp (score x r n e - Finset.univ.fold max (Ideal.ofBits .f32 0xFF800000#32) fun e' => score x r n e')

/-- and the probability: that exponential over the sum of all of the token's. -/
def prob (n : Fin 256) (e : Fin 64) : EReal := Ideal.div (weight x r n e) (∑ e' : Fin 64, weight x r n e')

/-- Expert `e`'s product for token `n` at column `h`. -/
def product (e : Fin 64) (n h : Fin 256) : EReal := ∑ k : Fin 128, x (ix2 n k) * E (ix3 e k h)

/-- Expert `e`'s contribution: nothing where the token is routed elsewhere. -/
def term (e : Fin 64) (n h : Fin 256) : EReal :=
  if i (ix2 n 0) = BitVec.ofNat 32 e.val then prob x r n e * product x E e n h else 0

/-- The layer: the shared expert's product, and the experts' contributions. -/
def layer (n h : Fin 256) : EReal :=
  (∑ k : Fin 128, x (ix2 n k) * s (ix2 k h)) + ∑ e : Fin 64, term x r i E e n h

/-- Two experts have the same number as words only when they are the same. -/
theorem word_inj (a b : Fin 64) : BitVec.ofNat 32 a.val = BitVec.ofNat 32 b.val ↔ a = b := by
  refine ⟨fun h => Fin.ext ?_, fun h => h ▸ rfl⟩
  have := congrArg BitVec.toNat h
  simp only [BitVec.toNat_ofNat] at this
  omega

/-- A choice by the equality of two words. -/
theorem select_eq {α : Type} (a b : BitVec 32) (u v : α) :
    Scalar.select (IntOp.cmpi .eq a b) u v = if a = b then u else v := by
  unfold Scalar.select IntOp.cmpi
  by_cases h : a = b
  · simp [h]
  · simp [h, beq_eq_false_iff_ne.2 h]

/-- A token routed to expert `e` has `e`'s term only; -/
theorem sum_term_of_eq (e : Fin 64) (n h : Fin 256) (hi : i (ix2 n 0) = BitVec.ofNat 32 e.val) :
    ∑ e', term x r i E e' n h = prob x r n e * product x E e n h := by
  rw [Finset.sum_eq_single e]
  · unfold term; rw [if_pos hi]
  · intro e' _ hne
    unfold term
    rw [if_neg fun h' => hne ((word_inj _ _).1 (h'.symm.trans hi))]
  · exact fun h' => absurd (Finset.mem_univ e) h'

/-- one routed to no expert has none. -/
theorem sum_term_of_ne (n h : Fin 256) (hi : ∀ e : Fin 64, i (ix2 n 0) ≠ BitVec.ofNat 32 e.val) :
    ∑ e', term x r i E e' n h = 0 :=
  Finset.sum_eq_zero fun e _ => if_neg (hi e)

end Cert.Butterfly

end
-- ==== Proof.Share.lean ====
/-
# One device's share

The share a device starts its all-reduce from, at a row and a column: the contributions of its own two experts.
-/
module

public import proofs.«01_k».proof.Proof.Proto
public import proofs.«01_k».proof.Proof.Plain
public import Idealize.ShloMosaic.Lib.Layout

@[expose] public section

set_option maxRecDepth 16384

noncomputable section

namespace Cert.Butterfly

open Cert.KernelIdeal Cert.KernelIdeal.Gen
open Idealize.ShloMosaic Idealize.ShloMosaic.TcCoe

/-- Row `n` of half `b`, as a row of the whole. -/
abbrev rowOf (b : Bool) (n : Fin 128) : Fin 256 := ⟨row0 b + n.val, by cases b <;> simp only [row0] <;> omega⟩

/-- The number of device `d`'s expert `k`. -/
abbrev expertOf (d : Dev nD) (k : Fin 2) : Fin 64 := ⟨2 * d.val + k.val, by have : d.val < 32 := d.isLt; omega⟩

theorem word0 (d : Dev nD) : Scalar.muli 2#32 (devWord d) = BitVec.ofNat 32 (expertOf d 0).val := by
  revert d; decide +kernel
theorem word1 (d : Dev nD) : Scalar.addi (Scalar.muli 2#32 (devWord d)) 1#32 = BitVec.ofNat 32 (expertOf d 1).val := by
  revert d; decide +kernel

section
variable (x : FVec Ideal S256x128 .f32) (r : FVec Ideal S128x64 .f32) (i : IVec S256x1 32)

/-- The kernel's probability of the expert a token is routed to, picked out of a row by a sum. -/
theorem picked (n : Fin 256) :
    (k0_pay4 x r i : FVec Ideal S256x1 .f32) (ix2 n 0)
      = ∑ e : Fin 64, if BitVec.ofNat 32 e.val = i (ix2 n 0) then prob x r n e else 0 := by
  pointwise [k0_pay4, k0_pay3, k0_pay2]
  exact Finset.sum_congr rfl fun e _ => select_eq _ _ _ _

theorem picked_of_eq (n : Fin 256) (e : Fin 64) (hi : i (ix2 n 0) = BitVec.ofNat 32 e.val) :
    (k0_pay4 x r i : FVec Ideal S256x1 .f32) (ix2 n 0) = prob x r n e := by
  rw [picked]
  simp only [hi, word_inj]
  rw [Finset.sum_ite_eq' Finset.univ e, if_pos (Finset.mem_univ e)]

/-- A device's first gate for a token: the probability of the device's expert where the token is routed to it, else zero; -/
theorem first_gate (v : BitVec 32) (e : Fin 64) (hv : Scalar.muli 2#32 v = BitVec.ofNat 32 e.val) (n : Fin 256) :
    (k0_pay5 v x r i : FVec Ideal S256x1 .f32) (ix2 n 0)
      = if i (ix2 n 0) = BitVec.ofNat 32 e.val then prob x r n e else 0 := by
  pointwise [k0_pay5, k0_pay3]
  rw [hv, select_eq]
  exact if_ctx_congr Iff.rfl (fun h => picked_of_eq x r i n e h) fun _ => rfl

/-- the second gate. -/
theorem second_gate (v : BitVec 32) (e : Fin 64) (hv : Scalar.addi (Scalar.muli 2#32 v) 1#32 = BitVec.ofNat 32 e.val)
    (n : Fin 256) :
    (k0_pay6 v x r i : FVec Ideal S256x1 .f32) (ix2 n 0)
      = if i (ix2 n 0) = BitVec.ofNat 32 e.val then prob x r n e else 0 := by
  pointwise [k0_pay6, k0_pay3]
  rw [hv, select_eq]
  exact if_ctx_congr Iff.rfl (fun h => picked_of_eq x r i n e h) fun _ => rfl

/-- A gate times a product is the expert's term. -/
theorem gate_mul (E : FVec Ideal ⟨3, ![64, 128, 256]⟩ .f32) (e : Fin 64) (n h : Fin 256) :
    (if i (ix2 n 0) = BitVec.ofNat 32 e.val then prob x r n e else 0) * product x E e n h = term x r i E e n h := by
  unfold term
  split
  · rfl
  · exact zero_mul _
end

section
variable (m : (ℓ : Loc nD τ sig) → Buf (Elt Ideal) ℓ)

/-- The upper half's share from the gates and the weights; -/
theorem part_upper (d : Dev nD) (n : Fin 128) (h : Fin 256) :
    part m false d (ix2 n h)
      = gate0 m d (ix2 (rowOf false n) 0) * (∑ k : Fin 128, xIn m d (ix2 (rowOf false n) k) * wIn m 0 d (ix3 0 k h))
        + gate1 m d (ix2 (rowOf false n) 0) * (∑ k : Fin 128, xIn m d (ix2 (rowOf false n) k) * wIn m 1 d (ix3 0 k h)) := by
  pointwise [part, k0_pay7, k0_pay2]
  simp only [rowOf, row0, Nat.zero_add]

/-- the lower half's. -/
theorem part_lower (d : Dev nD) (n : Fin 128) (h : Fin 256) :
    part m true d (ix2 n h)
      = gate0 m d (ix2 (rowOf true n) 0) * (∑ k : Fin 128, xIn m d (ix2 (rowOf true n) k) * wIn m 0 d (ix3 0 k h))
        + gate1 m d (ix2 (rowOf true n) 0) * (∑ k : Fin 128, xIn m d (ix2 (rowOf true n) k) * wIn m 1 d (ix3 0 k h)) := by
  pointwise [part, k0_pay8, k0_pay9, k0_pay10, k0_pay2]

/-- Expert `k` of a device's block of the weights is expert `2 d + k` of all. -/
theorem wIn_apply (E : FVec Ideal ⟨3, ![64, 128, 256]⟩ .f32) (d : Dev nD)
    (hE : eIn m d = Layout.block ⟨3, ![2, 128, 256]⟩ ⟨3, ![64, 128, 256]⟩ 0 32 d E) (k : Fin 2) (a : Fin 128) (h : Fin 256) :
    wIn m k d (ix3 0 a h) = E (ix3 (expertOf d k) a h) := by
  unfold wIn
  rw [hE]
  change E _ = E _
  refine congrArg E (funext fun b => Fin.ext ?_)
  rw [Layout.Tiles.idx_val]
  match b with
  | ⟨0, _⟩ =>
    change d.val * 2 + (k.val + 1 * 0) = 2 * d.val + k.val
    omega
  | ⟨1, _⟩ =>
    change 0 + 1 * a.val = a.val
    omega
  | ⟨2, _⟩ =>
    change 0 + 1 * h.val = h.val
    omega

/-- A device's share of a half, at a row and a column: the terms of its two experts. -/
theorem part_apply (x : FVec Ideal S256x128 .f32) (r : FVec Ideal S128x64 .f32) (i : IVec S256x1 32)
    (E : FVec Ideal ⟨3, ![64, 128, 256]⟩ .f32) (d : Dev nD) (hx : xIn m d = x) (hr : rIn m d = r) (hi : iIn m d = i)
    (hE : eIn m d = Layout.block ⟨3, ![2, 128, 256]⟩ ⟨3, ![64, 128, 256]⟩ 0 32 d E) (b : Bool) (n : Fin 128) (h : Fin 256) :
    part m b d (ix2 n h) = ∑ k : Fin 2, term x r i E (expertOf d k) (rowOf b n) h := by
  have hpart : part m b d (ix2 n h)
      = gate0 m d (ix2 (rowOf b n) 0) * (∑ k : Fin 128, xIn m d (ix2 (rowOf b n) k) * wIn m 0 d (ix3 0 k h))
        + gate1 m d (ix2 (rowOf b n) 0) * (∑ k : Fin 128, xIn m d (ix2 (rowOf b n) k) * wIn m 1 d (ix3 0 k h)) := by
    cases b
    · exact part_upper m d n h
    · exact part_lower m d n h
  rw [hpart, Fin.sum_univ_two, ← gate_mul, ← gate_mul]
  simp only [wIn_apply m E d hE, gate0, gate1, hx, hr, hi]
  rw [first_gate x r i _ _ (word0 d), second_gate x r i _ _ (word1 d)]
  rfl
end

end Cert.Butterfly

end
-- ==== Proof.Total.lean ====
/-
# The butterfly's sum

After `t` exchanges a device's running sum is the sum of the shares of the devices it has heard of, each once; after five
it has heard of all. Over the extended reals the order of the additions does not matter.
-/
module

public import proofs.«01_k».proof.Proof.Proto
public import Idealize.ShloMosaic.Lib.Pointwise

@[expose] public section

set_option maxRecDepth 16384

noncomputable section

namespace Cert.Butterfly

open Cert.KernelIdeal Cert.KernelIdeal.Gen
open Idealize.ShloMosaic Idealize.ShloMosaic.TcCoe

set_option backward.proofsInPublic true in
/-- The devices whose shares device `c` has in its running sum of half `b` after `t` exchanges. -/
def heard (b : Bool) : ℕ → Dev nD → Finset (Dev nD)
  | 0, c => {c}
  | t + 1, c => heard b t c ∪ heard b t (peer b (Fin.ofNat 5 t) c)

/-- An exchange brings only shares not heard of before, -/
theorem heard_disjoint : ∀ (b : Bool) (t : Fin 5) (c : Dev nD), Disjoint (heard b t.val c) (heard b t.val (peer b (Fin.ofNat 5 t.val) c)) := by
  decide +kernel

/-- and five bring all. -/
theorem heard_all : ∀ (b : Bool) (c : Dev nD), heard b 5 c = Finset.univ := by
  decide +kernel

/-- A slot's contents, reshaped back, are the half that was sent. -/
theorem asSlot_apply {F : FTy → Type} (X : FVec F S128x256 .bf16) (n : Fin 128) (h : Fin 256) :
    asSlot X (ix3 0 n h) = X (ix2 n h) := by
  unfold asSlot
  refine congrArg X ((Equiv.symm_apply_eq _).2 ?_)
  pointwise

variable (m : (ℓ : Loc nD τ sig) → Buf (Elt Ideal) ℓ)

/-- One exchange, at a row and a column. -/
theorem acc_succ (b : Bool) (t : ℕ) (c : Dev nD) (n : Fin 128) (h : Fin 256) :
    acc m b (t + 1) c (ix2 n h) = acc m b t c (ix2 n h) + acc m b t (peer b (Fin.ofNat 5 t) c) (ix2 n h) := by
  rw [acc]
  pointwise [k0_pay12, asSlot_apply]

/-- The running sum after `t` exchanges. -/
theorem acc_apply (b : Bool) (n : Fin 128) (h : Fin 256) : ∀ (t : ℕ), t ≤ 4 → ∀ c : Dev nD,
    acc m b t c (ix2 n h) = ∑ d ∈ heard b t c, part m b d (ix2 n h)
  | 0, _, c => by rw [heard, Finset.sum_singleton, acc]
  | t + 1, ht, c => by
    rw [acc_succ, acc_apply b n h t (by omega), acc_apply b n h t (by omega), heard]
    exact (Finset.sum_union (heard_disjoint b ⟨t, by omega⟩ c)).symm

/-- The last exchange's sum is the sum of all shares. -/
theorem total_apply (b : Bool) (n : Fin 128) (h : Fin 256) (c : Dev nD) :
    acc m b 4 c (ix2 n h) + acc m b 4 (peer b 4 c) (ix2 n h) = ∑ d : Dev nD, part m b d (ix2 n h) := by
  have hd : Disjoint (heard b 4 c) (heard b 4 (peer b 4 c)) := heard_disjoint b 4 c
  rw [acc_apply m b n h 4 le_rfl, acc_apply m b n h 4 le_rfl, ← Finset.sum_union hd]
  exact Finset.sum_congr (heard_all b c) fun _ _ => rfl

end Cert.Butterfly

end
-- ==== Proof.Output.lean ====
/-
# What a device's result holds

A row of the result lies in one of two halves; there it is the shared expert's product and the sum of all devices' shares.
-/
module

public import proofs.«01_k».proof.Proof.Share
public import proofs.«01_k».proof.Proof.Total

@[expose] public section

set_option maxRecDepth 16384

noncomputable section

namespace Cert.Butterfly

open Cert.KernelIdeal Cert.KernelIdeal.Gen
open Idealize.ShloMosaic Idealize.ShloMosaic.TcCoe

/-! ## Halves of a result -/

/-- Where row `n` of half `b` lies. -/
theorem half_emb (b : Bool) (n : Fin 128) (h : Fin 256) : (outM.access (halfR b)).emb (ix2 n h) = ix2 (rowOf b n) h :=
  funext fun a => Fin.ext (by
    match a with
    | ⟨0, _⟩ =>
      change row0 b + 1 * n.val = row0 b + n.val
      omega
    | ⟨1, _⟩ =>
      change 0 + 1 * h.val = h.val
      omega)

section
variable (X : (cc0_stg5_0 : Ref sig .tc).ty.Contents (Elt Ideal)) (w : Vec Ideal S128x256 .f32)

theorem half_read (b : Bool) (n : Fin 128) (h : Fin 256) :
    (outM.access (halfR b)).read (Elt Ideal) X (ix2 n h) = X (ix2 (rowOf b n) h) :=
  congrArg X (half_emb b n h)

/-- A half just written holds what was written, -/
theorem half_write (b : Bool) (n : Fin 128) (h : Fin 256) :
    (outM.access (halfR b)).write (Elt Ideal) X w Finset.univ (ix2 (rowOf b n) h) = w (ix2 n h) := by
  rw [← half_emb]
  exact View.write_emb_of_mem (v := outM.access (halfR b)) X w (Finset.mem_univ _)

/-- and leaves the other half alone. -/
theorem half_write_other {a b : Bool} (hab : a ≠ b) (n : Fin 128) (h : Fin 256) :
    (outM.access (halfR a)).write (Elt Ideal) X w Finset.univ (ix2 (rowOf b n) h) = X (ix2 (rowOf b n) h) := by
  refine View.write_of_not_mem (v := outM.access (halfR a)) X w Finset.univ fun hm => ?_
  obtain ⟨y, -, hy⟩ := Finset.mem_map.1 hm
  idx_vars y
  rw [half_emb, ix2_inj] at hy
  have hv : row0 a + y0.val = row0 b + n.val := congrArg Fin.val hy.1
  revert hab hv
  cases a <;> cases b
  · exact fun hne => absurd rfl hne
  · simp only [row0]; omega
  · simp only [row0]; omega
  · exact fun hne => absurd rfl hne
end

/-- Every row lies in a half. -/
theorem row_cases (n : Fin 256) : ∃ b k, n = rowOf b k := by
  by_cases hn : n.val < 128
  · exact ⟨false, ⟨n.val, hn⟩, Fin.ext (Nat.zero_add _).symm⟩
  · exact ⟨true, ⟨n.val - 128, by omega⟩, Fin.ext (by simp only [row0]; omega)⟩

/-! ## The result -/

section
variable (m : (ℓ : Loc nD τ sig) → Buf (Elt Ideal) ℓ)

/-- The shared expert's product. -/
theorem shared_apply (c : Dev nD) (n h : Fin 256) :
    shared m c (ix2 n h) = ∑ k : Fin 128, xIn m c (ix2 n k) * sIn m c (ix2 k h) := by
  pointwise [shared, k0_pay11, k0_pay2]

/-- The upper rows of the result, which the second half's writing leaves alone; -/
theorem outAt_upper (c : Dev nD) (n : Fin 128) (h : Fin 256) :
    outAt m c (ix2 (rowOf false n) h)
      = shared m c (ix2 (rowOf false n) h) + ∑ d : Dev nD, part m false d (ix2 n h) := by
  rw [outAt, half_write_other _ _ (a := true) (b := false) (by decide), out0, half_write]
  pointwise [k0_pay20, asSlot_apply]
  rw [half_read, total_apply]

/-- the lower rows. -/
theorem outAt_lower (c : Dev nD) (n : Fin 128) (h : Fin 256) :
    outAt m c (ix2 (rowOf true n) h)
      = shared m c (ix2 (rowOf true n) h) + ∑ d : Dev nD, part m true d (ix2 n h) := by
  rw [outAt, half_write]
  pointwise [k0_pay1, k0_pay21, k0_pay22, asSlot_apply]
  rw [half_read, total_apply, out0, half_write_other _ _ (a := false) (b := true) (by decide)]

/-- The experts, two to a device. -/
theorem sum_experts (f : Fin 64 → EReal) : ∑ d : Dev nD, ∑ k : Fin 2, f (expertOf d k) = ∑ e : Fin 64, f e := by
  rw [← Fintype.sum_prod_type']
  refine Fintype.sum_equiv (finProdFinEquiv (m := 32) (n := 2)) _ _ fun p => congrArg f (Fin.ext ?_)
  exact Nat.add_comm _ _

/-- Every device's result is the layer. -/
theorem outAt_apply (x : FVec Ideal S256x128 .f32) (r : FVec Ideal S128x64 .f32) (i : IVec S256x1 32)
    (E : FVec Ideal ⟨3, ![64, 128, 256]⟩ .f32) (s : FVec Ideal S128x256 .f32)
    (hx : ∀ d, xIn m d = x) (hr : ∀ d, rIn m d = r) (hi : ∀ d, iIn m d = i)
    (hE : ∀ d, eIn m d = Layout.block ⟨3, ![2, 128, 256]⟩ ⟨3, ![64, 128, 256]⟩ 0 32 d E) (hs : ∀ d, sIn m d = s)
    (c : Dev nD) (n h : Fin 256) : outAt m c (ix2 n h) = layer x r i E s n h := by
  obtain ⟨b, n, rfl⟩ := row_cases n
  have ho : outAt m c (ix2 (rowOf b n) h) = shared m c (ix2 (rowOf b n) h) + ∑ d : Dev nD, part m b d (ix2 n h) := by
    cases b
    · exact outAt_upper m c n h
    · exact outAt_lower m c n h
  rw [ho, shared_apply, hx, hs]
  simp only [part_apply m x r i E _ (hx _) (hr _) (hi _) (hE _)]
  rw [sum_experts fun e => term x r i E e (rowOf b n) h]
  rfl
end

end Cert.Butterfly

end
-- ==== Proof.Reference.lean ====
/-
# What the reference computes

The reference's result at a row and a column: it takes the probability and the weights of the expert a token names out of
the tables by index, and keeps the product where that number is one of the sixty-four. That is the layer.
-/
module

public import proofs.«01_k».proof.Proof.Plain
public import proofs.«01_k».proof.Proof.Gen.ReferenceIdeal.Run

@[expose] public section

set_option maxRecDepth 16384

noncomputable section

namespace Cert.Butterfly.Ref

open Cert.ReferenceIdeal Cert.ReferenceIdeal.Gen
open Idealize.ShloMosaic Idealize.ShloMosaic.TcCoe

/-! ## Words -/

/-- A token's number, put back into range as an index of an array, is itself, -/
theorem row_word : ∀ n : Fin 256,
    min (Scalar.select (IntOp.cmpi .slt (BitVec.ofNat 32 n.val) 0#32) (IntOp.addi (BitVec.ofNat 32 n.val) 256#32)
      (BitVec.ofNat 32 n.val)).toInt.toNat 255 = n.val := by
  decide +kernel

/-- and so is an expert's number; -/
theorem expert_word : ∀ e : Fin 64,
    min (Scalar.select (IntOp.cmpi .slt (BitVec.ofNat 32 e.val) 0#32) (IntOp.addi (BitVec.ofNat 32 e.val) 64#32)
      (BitVec.ofNat 32 e.val)).toInt.toNat 63 = e.val := by
  decide +kernel

/-- which passes the test of naming an expert. -/
theorem test_of_expert : ∀ e : Fin 64,
    IntOp.andi (IntOp.cmpi .sge (BitVec.ofNat 32 e.val) 0#32) (IntOp.cmpi .slt (BitVec.ofNat 32 e.val) 64#32) = 1#1 := by
  decide +kernel

/-- A word that is no expert's number does not. -/
theorem test_of_other (w : BitVec 32) (hw : ∀ e : Fin 64, w ≠ BitVec.ofNat 32 e.val) :
    IntOp.andi (IntOp.cmpi .sge w 0#32) (IntOp.cmpi .slt w 64#32) ≠ 1#1 := by
  intro ht
  have h0 : (0#32).sle w = true ∧ w.slt 64#32 = true := by
    unfold IntOp.andi IntOp.cmpi at ht
    revert ht
    cases h1 : (0#32).sle w <;> cases h2 : w.slt 64#32 <;> simp [h1, h2]
  have hge := BitVec.sle_iff_toInt_le.1 h0.1
  have hlt := BitVec.slt_iff_toInt_lt.1 h0.2
  have e0 : (0#32 : BitVec 32).toInt = 0 := by decide
  have e64 : (64#32 : BitVec 32).toInt = 64 := by decide
  rw [e0] at hge
  rw [e64] at hlt
  refine hw ⟨w.toInt.toNat, by omega⟩ (BitVec.eq_of_toInt_eq ?_)
  rw [BitVec.toInt_ofNat', Int.toNat_of_nonneg hge, Int.bmod_eq_of_le (by omega) (by omega)]

/-! ## The tables, read by index -/

/-- The probability table, read at a pair of words. -/
theorem pick_pair {α : Type} (t : S256x64.Idx → α) (w : IVec S256x2 32) (n : Fin 256) :
    Host.gather gather_S256x64_S256x2_S256_n_01_n_n_01_1_11 t w (ix1 n)
      = t (ix2 ⟨min (w (ix2 n 0)).toInt.toNat 255, by omega⟩ ⟨min (w (ix2 n 1)).toInt.toNat 63, by omega⟩) := by
  have key : ∀ q : Fin 2, ∀ h : q.val < gather_S256x64_S256x2_S256_n_01_n_n_01_1_11.startIndexMap.length,
      gather_S256x64_S256x2_S256_n_01_n_n_01_1_11.siIdx (ix1 n) ⟨q.val, h⟩ = ix2 n q := fun q h => funext fun b => by
    match b with
    | ⟨0, _⟩ => rfl
    | ⟨1, _⟩ => rfl
  unfold Host.gather
  refine congrArg t (funext fun a => Fin.ext ?_)
  match a with
  | ⟨0, _⟩ => exact congrArg (fun y => min (w y).toInt.toNat 255) (key 0 (by decide))
  | ⟨1, _⟩ => exact congrArg (fun y => min (w y).toInt.toNat 63) (key 1 (by decide))

/-- The weights, read at a word. -/
theorem pick_one {α : Type} (t : S64x128x256.Idx → α) (w : IVec S256x1 32) (n : Fin 256) (k : Fin 128) (h : Fin 256) :
    Host.gather gather_S64x128x256_S256x1_S256x128x256_12_0_n_n_0_1_1128256 t w (ix3 n k h)
      = t (ix3 ⟨min (w (ix2 n 0)).toInt.toNat 63, by omega⟩ k h) := by
  have key : ∀ hq : 0 < gather_S64x128x256_S256x1_S256x128x256_12_0_n_n_0_1_1128256.startIndexMap.length,
      gather_S64x128x256_S256x1_S256x128x256_12_0_n_n_0_1_1128256.siIdx (ix3 n k h) ⟨0, hq⟩ = ix2 n 0 := fun hq => funext fun b => by
    match b with
    | ⟨0, _⟩ => rfl
    | ⟨1, _⟩ => rfl
  unfold Host.gather
  refine congrArg t (funext fun a => Fin.ext ?_)
  match a with
  | ⟨0, _⟩ => exact congrArg (fun y => min (w y).toInt.toNat 63) (key (by decide))
  | ⟨1, _⟩ => exact Nat.zero_add _
  | ⟨2, _⟩ => exact Nat.zero_add _

/-! ## The reference's stages -/

section
variable (x : FVec Ideal S256x128 .f32) (r : FVec Ideal S128x64 .f32) (i : IVec S256x1 32)
variable (E : FVec Ideal S64x128x256 .f32) (s : FVec Ideal S128x256 .f32)

/-- A column of values as a row of the table has them all. -/
abbrev spread (v : FVec Ideal S256 .f32) : FVec Ideal S256x64 .f32 :=
  broadcastInDim S256x64 ![0, 1] bcast_S256x1_S256x64_0_1 (broadcastInDim S256x1 ![0] bcast_S256_S256x1_0 v)

def scores : FVec Ideal S256x64 .f32 := Host.dotGeneral dot_S256x128_S128x64_S256x64_1_0_0_1_n_n none x r
def expos : FVec Ideal S256x64 .f32 :=
  Host.exp (subf (scores x r) (spread (Host.reduce FloatOps.maximumf (scores x r) (constant S_ .f32 0xFF800000#32) reducesTo_S256x64_S256_d1 h_S_)))
def probs : FVec Ideal S256x64 .f32 :=
  Host.divf (expos x r) (spread (Host.reduceAdd (expos x r) (constant S_ .f32 0x00000000#32) reducesTo_S256x64_S256_d1 h_S_))

/-- The expert numbers as a vector, a constant word as a vector, and numbers put back into range. -/
abbrev ids : IVec S256 32 := shapeCast _ i shapeCasts_S256x1_S256
abbrev always (w : BitVec 32) : IVec S256 32 := broadcastInDim S256 ![] bcast_S_S256 (constantI S_ 32 w)
abbrev wrapped (v : IVec S256 32) (size : BitVec 32) : IVec S256x1 32 :=
  broadcastInDim S256x1 ![0] bcast_S256_S256x1_0 (select (cmpi .slt v (always 0#32)) (addi v (always size)) v)

def picks : FVec Ideal S256 .f32 :=
  Host.gather gather_S256x64_S256x2_S256_n_01_n_n_01_1_11 (probs x r)
    (concatenate S256x2 1 [⟨S256x1, wrapped (iotaInDim S256 32 0) 256#32⟩, ⟨S256x1, wrapped (ids i) 64#32⟩] concatenates_S256x1_S256x1_S256x2_d1)
def products : FVec Ideal S256x256 .f32 :=
  Host.dotGeneral dot_S256x128_S256x128x256_S256x256_1_1_n_2_0_0 none x
    (Host.gather gather_S64x128x256_S256x1_S256x128x256_12_0_n_n_0_1_1128256 E (wrapped (ids i) 64#32))
def named : IVec S256x256 1 :=
  broadcastInDim S256x256 ![0, 1] bcast_S256x1_S256x256_0_1 (broadcastInDim S256x1 ![0] bcast_S256_S256x1_0
    (andi (cmpi .sge (ids i) (always 0#32)) (cmpi .slt (ids i) (always 64#32))))

/-- The reference's result. -/
def result : FVec Ideal S256x256 .f32 :=
  addf (Host.dotGeneral dot_S256x128_S128x256_S256x256_1_0_0_1_n_n none x s)
    (select (named i)
      (mulf (broadcastInDim S256x256 ![0, 1] bcast_S256x1_S256x256_0_1 (broadcastInDim S256x1 ![0] bcast_S256_S256x1_0 (picks x r i)))
        (products x i E))
      (broadcastInDim S256x256 ![] bcast_S_S256x256 (id (constant S_ .f32 0x00000000#32))))

/-! ## At an index -/

theorem probs_apply (n : Fin 256) (e : Fin 64) : probs x r (ix2 n e) = prob x r n e := by
  pointwise [probs, expos, scores, spread]
  rfl

theorem picks_apply (n : Fin 256) (e : Fin 64) (hi : i (ix2 n 0) = BitVec.ofNat 32 e.val) : picks x r i (ix1 n) = prob x r n e := by
  pointwise [picks, pick_pair, hi]
  simp only [row_word, expert_word]
  exact probs_apply x r n e

theorem products_apply (n h : Fin 256) (e : Fin 64) (hi : i (ix2 n 0) = BitVec.ofNat 32 e.val) :
    products x i E (ix2 n h) = product x E e n h := by
  pointwise [products, pick_one, hi]
  simp only [expert_word]
  rfl

theorem named_apply (n h : Fin 256) :
    named i (ix2 n h) = IntOp.andi (IntOp.cmpi .sge (i (ix2 n 0)) 0#32) (IntOp.cmpi .slt (i (ix2 n 0)) 64#32) := by
  pointwise [named]

/-- The reference's result is the layer. -/
theorem result_apply (n h : Fin 256) : result x r i E s (ix2 n h) = layer x r i E s n h := by
  pointwise [result, id]
  unfold layer
  congr 1
  by_cases hw : ∃ e : Fin 64, i (ix2 n 0) = BitVec.ofNat 32 e.val
  · obtain ⟨e, he⟩ := hw
    rw [named_apply, he, test_of_expert, sum_term_of_eq x r i E e n h he, picks_apply x r i n e he, products_apply x i E n h e he]
    rfl
  · have hw' : ∀ e : Fin 64, i (ix2 n 0) ≠ BitVec.ofNat 32 e.val := fun e he => hw ⟨e, he⟩
    rw [named_apply, sum_term_of_ne x r i E n h hw']
    exact if_neg (test_of_other _ hw')
end

end Cert.Butterfly.Ref

end
-- ==== Proof.Value.lean ====
/-
# The value

The program's run, read at the result array, against the reference's: both hold the layer.
-/
module

public import proofs.«01_k».proof.Proof.Frames
public import proofs.«01_k».proof.Proof.Output
public import proofs.«01_k».proof.Proof.Reference

@[expose] public section

noncomputable section

namespace Cert.Butterfly

open Cert.KernelIdeal Cert.KernelIdeal.Gen
open Idealize.ShloMosaic Idealize.ShloMosaic.TcCoe
open Idealize.SL.Sem

section
variable {F : FTy → Type} [FloatOps F]
variable (m : (ℓ : Loc nD τ sig) → Buf (Elt F) ℓ)

/-! ## The windows hold whole arrays -/

omit [FloatOps F] in
/-- A block that starts at zero on every axis and is as large as its array is the array. -/
theorem read_all (b : Ref sig .tc) (off : Fin b.ty.shape.rank → ℕ) (h0 : off = fun _ => 0)
    (inb : ∀ a, off a + b.ty.shape.size a ≤ b.ty.shape.size a) (f : b.ty.Contents (Elt F)) :
    ((Memref.whole b).access (Rect.unit off b.ty.shape.size inb) : View sig .tc _ _ _).read (Elt F) f = f :=
  Memref.read_access_unit_zero (Elt F) b h0 inb f

theorem xIn_eq (c : Dev nD) : xIn m c = m ((c : Thread nD τ).loc main_arg0) :=
  read_all main_arg0 (fun a => win0_0.index (0 : Fin 1) a * main_arg0.ty.shape.size a) (funext fun a => by fin_cases a <;> decide)
    (fun a => by fin_cases a <;> decide) _
theorem rIn_eq (c : Dev nD) : rIn m c = m ((c : Thread nD τ).loc main_arg1) :=
  read_all main_arg1 (fun a => win0_1.index (0 : Fin 1) a * main_arg1.ty.shape.size a) (funext fun a => by fin_cases a <;> decide)
    (fun a => by fin_cases a <;> decide) _
theorem iIn_eq (c : Dev nD) : iIn m c = m ((c : Thread nD τ).loc main_arg2) :=
  read_all main_arg2 (fun a => win0_2.index (0 : Fin 1) a * main_arg2.ty.shape.size a) (funext fun a => by fin_cases a <;> decide)
    (fun a => by fin_cases a <;> decide) _
theorem eIn_eq (c : Dev nD) : eIn m c = m ((c : Thread nD τ).loc main_arg3) :=
  read_all main_arg3 (fun a => win0_3.index (0 : Fin 1) a * main_arg3.ty.shape.size a) (funext fun a => by fin_cases a <;> decide)
    (fun a => by fin_cases a <;> decide) _
theorem sIn_eq (c : Dev nD) : sIn m c = m ((c : Thread nD τ).loc main_arg4) :=
  read_all main_arg4 (fun a => win0_4.index (0 : Fin 1) a * main_arg4.ty.shape.size a) (funext fun a => by fin_cases a <;> decide)
    (fun a => by fin_cases a <;> decide) _

/-- The one point flushes the body's result over the whole result array. -/
theorem finalA_out (c : Dev nD) : finalA m c 5 = outAt m c := by
  have whole (f : main_v1.ty.Contents (Elt F)) : (win0_5.blk (0 : Fin 1)).view.read (Elt F) f = f :=
    read_all main_v1 (fun a => win0_5.index (0 : Fin 1) a * main_v1.ty.shape.size a) (funext fun a => by fin_cases a <;> decide)
      (fun a => by fin_cases a <;> decide) f
  have flushed := (dats m 0 c).arrAt_succ (5 : Fin 6) (0 : Fin 1)
  rw [if_pos (by decide)] at flushed
  calc finalA m c 5 = (win0_5.blk (0 : Fin 1)).view.read (Elt F) (finalA m c 5) := (whole _).symm
    _ = (win0_5.blk (0 : Fin 1)).view.read (Elt F) _ := congrArg _ flushed
    _ = outAt m c := View.read_write_univ _ _
end

/-- `Cert.algebraic_KernelIdeal_ReferenceIdeal`: every device's result and the reference's are the layer. -/
theorem value : Cert.algebraic_KernelIdeal_ReferenceIdeal := by
  intro m g m' g' _ hargs
  refine ⟨Ref.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run defs _ _).mono (fun _ h c => ⟨?_, (h.1 c 0).trans (finalA_in m c 0 rfl), (h.1 c 1).trans (finalA_in m c 1 rfl),
      (h.1 c 2).trans (finalA_in m c 2 rfl), (h.1 c 3).trans (finalA_in m c 3 rfl), (h.1 c 4).trans (finalA_in m c 4 rfl)⟩)
      (run_main (F := Ideal) m g)
    refine ((h.1 c 5).trans (finalA_out m c)).trans (funext fun j => ?_)
    obtain ⟨n, k, rfl⟩ : ∃ (n : Fin 256) (k : Fin 256), j = ix2 n k := ⟨j 0, j 1, eq_ix2 j⟩
    rw [Ref.result_apply]
    exact outAt_apply m _ _ _ _ _ (fun d => (xIn_eq m d).trans (hargs d).1) (fun d => (rIn_eq m d).trans (hargs d).2.1)
      (fun d => (iIn_eq m d).trans (hargs d).2.2.1) (fun d => (eIn_eq m d).trans (hargs d).2.2.2.1)
      (fun d => (sIn_eq m d).trans (hargs d).2.2.2.2) c n k
  · exact (θ_run Cert.ReferenceIdeal.defs _ _).mono (fun _ h => h 0) (Cert.ReferenceIdeal.Value.run (F := Ideal) m' g')

end Cert.Butterfly

end
-- ==== Proof.lean ====
/-
# The proof of the claims

The kernel's frames and its run are Proof/Frames.lean's.
-/
module

public import proofs.«01_k».proof.Defs
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Butterfly.frame_kernel, Cert.Butterfly.frame_kernel_ideal, Cert.Butterfly.frame_reference, trivial, Cert.Butterfly.value⟩

end Cert.Proof

end
